-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32 : Shape := ⟨2, ![1024, 32]⟩
abbrev S32x1024 : Shape := ⟨2, ![32, 1024]⟩
abbrev S1024x1024 : Shape := ⟨2, ![1024, 1024]⟩
abbrev S256x1024 : Shape := ⟨2, ![256, 1024]⟩
abbrev S64x1024 : Shape := ⟨2, ![64, 1024]⟩
abbrev S16x1024 : Shape := ⟨2, ![16, 1024]⟩
abbrev S128x1024 : Shape := ⟨2, ![128, 1024]⟩
abbrev S28 : Shape := ⟨1, ![28]⟩
abbrev S_ : Shape := ⟨0, ![]⟩
abbrev S1 : Shape := ⟨1, ![1]⟩

abbrev nBuf : Space → Nat
  | .hbm => 3
  | .vmem => 18
  | .smem => 0
  | _ => 0

abbrev bufTy : (tb : Table) → Fin (tcTables nBuf tb) → BufTy
  | .hbm, ⟨0, _⟩ => ⟨S1024x32, .bf16⟩
  | .hbm, ⟨1, _⟩ => ⟨S32x1024, .bf16⟩
  | .hbm, ⟨2, _⟩ => ⟨S1024x1024, .f32⟩
  | .local _ .vmem, ⟨0, _⟩ => ⟨S1024x32, .bf16⟩
  | .local _ .vmem, ⟨1, _⟩ => ⟨S32x1024, .bf16⟩
  | .local _ .vmem, ⟨2, _⟩ => ⟨S1024x1024, .f32⟩
  | .local _ .vmem, ⟨3, _⟩ => ⟨S1024x1024, .bf16⟩
  | .local _ .vmem, ⟨4, _⟩ => ⟨S256x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S32x1024, .bf16⟩
  | .local _ .vmem, ⟨15, _⟩ => ⟨S32x1024, .bf16⟩
  | .local _ .vmem, ⟨16, _⟩ => ⟨S32x1024, .bf16⟩
  | .local _ .vmem, ⟨17, _⟩ => ⟨S16x1024, .bf16⟩
  | _, _ => ⟨S1024x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v16 : BitVec 32 := Scalar.xori v2 c1_i32_5
  let c1_i32_15 : BitVec 32 := 1#32
  let v29 : BitVec 32 := Scalar.muli v16 c1_i32_15
  let v30 : BitVec 32 := Scalar.addi c0_i32 v29
  v30.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_8 : BitVec 32 := 8#32
  let v19 : BitVec 32 := Scalar.xori v2 c8_i32_8
  let c1_i32_17 : BitVec 32 := 1#32
  let v31 : BitVec 32 := Scalar.muli v19 c1_i32_17
  let v32 : BitVec 32 := Scalar.addi c0_i32_18 v31
  v32.toNat
def k0_dev3 (d0 : Dev nD) : Nat :=
  let c0_i32_21 : BitVec 32 := 0#32
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v10 : BitVec 32 := Scalar.muli c8_i32 v3
  let c2_i32 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_3 : BitVec 32 := 1#32
  let v9 : BitVec 32 := Scalar.xori v5 c1_i32_3
  let v11 : BitVec 32 := Scalar.muli c2_i32 v9
  let v12 : BitVec 32 := Scalar.addi v10 v11
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_4 : BitVec 32 := 1#32
  let v13 : BitVec 32 := Scalar.andi v9 c1_i32_4
  let v14 : BitVec 32 := Scalar.xori v8 v13
  let v15 : BitVec 32 := Scalar.addi v12 v14
  let c1_i32_20 : BitVec 32 := 1#32
  let v33 : BitVec 32 := Scalar.muli v15 c1_i32_20
  let v34 : BitVec 32 := Scalar.addi c0_i32_21 v33
  v34.toNat
def k0_dev4 (d0 : Dev nD) : Nat :=
  let c0_i32_24 : BitVec 32 := 0#32
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v10 : BitVec 32 := Scalar.muli c8_i32 v3
  let c2_i32 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_3 : BitVec 32 := 1#32
  let v9 : BitVec 32 := Scalar.xori v5 c1_i32_3
  let v11 : BitVec 32 := Scalar.muli c2_i32 v9
  let v12 : BitVec 32 := Scalar.addi v10 v11
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_4 : BitVec 32 := 1#32
  let v13 : BitVec 32 := Scalar.andi v9 c1_i32_4
  let v14 : BitVec 32 := Scalar.xori v8 v13
  let v15 : BitVec 32 := Scalar.addi v12 v14
  let c8_i32_9 : BitVec 32 := 8#32
  let v20 : BitVec 32 := Scalar.xori v15 c8_i32_9
  let c1_i32_23 : BitVec 32 := 1#32
  let v35 : BitVec 32 := Scalar.muli v20 c1_i32_23
  let v36 : BitVec 32 := Scalar.addi c0_i32_24 v35
  v36.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v25 : BitVec 32 := Scalar.xori v2 c16_i32
  let c1_i32_26 : BitVec 32 := 1#32
  let v37 : BitVec 32 := Scalar.muli v25 c1_i32_26
  let v38 : BitVec 32 := Scalar.addi c0_i32_27 v37
  v38.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v26 : BitVec 32 := Scalar.xori v2 c4_i32
  let c1_i32_29 : BitVec 32 := 1#32
  let v39 : BitVec 32 := Scalar.muli v26 c1_i32_29
  let v40 : BitVec 32 := Scalar.addi c0_i32_30 v39
  v40.toNat
def k0_dev7 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v27 : BitVec 32 := Scalar.xori v2 c20_i32
  let c1_i32_32 : BitVec 32 := 1#32
  let v41 : BitVec 32 := Scalar.muli v27 c1_i32_32
  let v42 : BitVec 32 := Scalar.addi c0_i32_33 v41
  v42.toNat
def k0_mult1 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  v56
def k0_mult2 (d0 : Dev nD) : BitVec 32 :=
  let c0_i32_41 : BitVec 32 := 0#32
  let c1_i32_40 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let v52 : BitVec 32 := Scalar.subi c1_i32_40 v8
  let c256_i32 : BitVec 32 := 256#32
  let v53 : BitVec 32 := Scalar.muli v52 c256_i32
  let v54 : BitVec 32 := Scalar.addi c0_i32_41 v53
  v54
def k0_off1 (d0 : Dev nD) : Fin 2 → Nat :=
  let c0_i32_41 : BitVec 32 := 0#32
  let c1_i32_40 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let v52 : BitVec 32 := Scalar.subi c1_i32_40 v8
  let c256_i32 : BitVec 32 := 256#32
  let v53 : BitVec 32 := Scalar.muli v52 c256_i32
  let v54 : BitVec 32 := Scalar.addi c0_i32_41 v53
  let v58 : BitVec 32 := v54
  let c0_i32_48 : BitVec 32 := 0#32
  ![v58.toNat, 0]
def k0_dev8 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v16 : BitVec 32 := Scalar.xori v2 c1_i32_5
  let c1_i32_46 : BitVec 32 := 1#32
  let v59 : BitVec 32 := Scalar.muli v16 c1_i32_46
  let v60 : BitVec 32 := Scalar.addi c0_i32_47 v59
  v60.toNat
def k0_mult3 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  v69
def k0_mult4 (d0 : Dev nD) : BitVec 32 :=
  let c512_i32_52 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c2_i32_50 : BitVec 32 := 2#32
  let v71 : BitVec 32 := Scalar.xori v67 c2_i32_50
  let c128_i32_51 : BitVec 32 := 128#32
  let v72 : BitVec 32 := Scalar.muli v71 c128_i32_51
  let v73 : BitVec 32 := Scalar.addi c512_i32_52 v72
  v73
def k0_off2 (d0 : Dev nD) (c2_i32_50 : BitVec 32) : Fin 2 → Nat :=
  let c512_i32_52 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let v71 : BitVec 32 := Scalar.xori v67 c2_i32_50
  let c128_i32_51 : BitVec 32 := 128#32
  let v72 : BitVec 32 := Scalar.muli v71 c128_i32_51
  let v73 : BitVec 32 := Scalar.addi c512_i32_52 v72
  let v74 : BitVec 32 := v73
  let c0_i32_57 : BitVec 32 := 0#32
  ![v74.toNat, 0]
def k0_dev9 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_8 : BitVec 32 := 8#32
  let v19 : BitVec 32 := Scalar.xori v2 c8_i32_8
  let c1_i32_55 : BitVec 32 := 1#32
  let v75 : BitVec 32 := Scalar.muli v19 c1_i32_55
  let v76 : BitVec 32 := Scalar.addi c0_i32_56 v75
  v76.toNat
def k0_mult5 (d0 : Dev nD) : BitVec 32 :=
  let c512_i32_60 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c1_i32_58 : BitVec 32 := 1#32
  let v82 : BitVec 32 := Scalar.xori v67 c1_i32_58
  let c128_i32_59 : BitVec 32 := 128#32
  let v83 : BitVec 32 := Scalar.muli v82 c128_i32_59
  let v84 : BitVec 32 := Scalar.addi c512_i32_60 v83
  v84
def k0_dev10 (d0 : Dev nD) : Nat :=
  let c0_i32_64 : BitVec 32 := 0#32
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v10 : BitVec 32 := Scalar.muli c8_i32 v3
  let c2_i32 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_3 : BitVec 32 := 1#32
  let v9 : BitVec 32 := Scalar.xori v5 c1_i32_3
  let v11 : BitVec 32 := Scalar.muli c2_i32 v9
  let v12 : BitVec 32 := Scalar.addi v10 v11
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_4 : BitVec 32 := 1#32
  let v13 : BitVec 32 := Scalar.andi v9 c1_i32_4
  let v14 : BitVec 32 := Scalar.xori v8 v13
  let v15 : BitVec 32 := Scalar.addi v12 v14
  let c1_i32_63 : BitVec 32 := 1#32
  let v86 : BitVec 32 := Scalar.muli v15 c1_i32_63
  let v87 : BitVec 32 := Scalar.addi c0_i32_64 v86
  v87.toNat
def k0_mult6 (d0 : Dev nD) : BitVec 32 :=
  let c512_i32_68 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c3_i32_66 : BitVec 32 := 3#32
  let v93 : BitVec 32 := Scalar.xori v67 c3_i32_66
  let c128_i32_67 : BitVec 32 := 128#32
  let v94 : BitVec 32 := Scalar.muli v93 c128_i32_67
  let v95 : BitVec 32 := Scalar.addi c512_i32_68 v94
  v95
def k0_dev11 (d0 : Dev nD) : Nat :=
  let c0_i32_72 : BitVec 32 := 0#32
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v10 : BitVec 32 := Scalar.muli c8_i32 v3
  let c2_i32 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_3 : BitVec 32 := 1#32
  let v9 : BitVec 32 := Scalar.xori v5 c1_i32_3
  let v11 : BitVec 32 := Scalar.muli c2_i32 v9
  let v12 : BitVec 32 := Scalar.addi v10 v11
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_4 : BitVec 32 := 1#32
  let v13 : BitVec 32 := Scalar.andi v9 c1_i32_4
  let v14 : BitVec 32 := Scalar.xori v8 v13
  let v15 : BitVec 32 := Scalar.addi v12 v14
  let c8_i32_9 : BitVec 32 := 8#32
  let v20 : BitVec 32 := Scalar.xori v15 c8_i32_9
  let c1_i32_71 : BitVec 32 := 1#32
  let v97 : BitVec 32 := Scalar.muli v20 c1_i32_71
  let v98 : BitVec 32 := Scalar.addi c0_i32_72 v97
  v98.toNat
def k0_off3 (d0 : Dev nD) : Fin 2 → Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let v112 : Index := Scalar.indexCast v57
  let c0_83 : Index := 0#32
  ![v112.toNat, 0]
def k0_mult7 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  v123
def k0_mult8 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c2_i32_88 : BitVec 32 := 2#32
  let v125 : BitVec 32 := Scalar.xori v121 c2_i32_88
  let c64_i32_89 : BitVec 32 := 64#32
  let v126 : BitVec 32 := Scalar.muli v125 c64_i32_89
  let v127 : BitVec 32 := Scalar.addi v57 v126
  v127
def k0_off4 (d0 : Dev nD) (c2_i32_88 : BitVec 32) : Fin 2 → Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let v125 : BitVec 32 := Scalar.xori v121 c2_i32_88
  let c64_i32_89 : BitVec 32 := 64#32
  let v126 : BitVec 32 := Scalar.muli v125 c64_i32_89
  let v127 : BitVec 32 := Scalar.addi v57 v126
  let v128 : BitVec 32 := v127
  let c0_i32_94 : BitVec 32 := 0#32
  ![v128.toNat, 0]
def k0_dev12 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_8 : BitVec 32 := 8#32
  let v19 : BitVec 32 := Scalar.xori v2 c8_i32_8
  let c1_i32_92 : BitVec 32 := 1#32
  let v129 : BitVec 32 := Scalar.muli v19 c1_i32_92
  let v130 : BitVec 32 := Scalar.addi c0_i32_93 v129
  v130.toNat
def k0_mult9 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c1_i32_95 : BitVec 32 := 1#32
  let v136 : BitVec 32 := Scalar.xori v121 c1_i32_95
  let c64_i32_96 : BitVec 32 := 64#32
  let v137 : BitVec 32 := Scalar.muli v136 c64_i32_96
  let v138 : BitVec 32 := Scalar.addi v57 v137
  v138
def k0_dev13 (d0 : Dev nD) : Nat :=
  let c0_i32_99 : BitVec 32 := 0#32
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v10 : BitVec 32 := Scalar.muli c8_i32 v3
  let c2_i32 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_3 : BitVec 32 := 1#32
  let v9 : BitVec 32 := Scalar.xori v5 c1_i32_3
  let v11 : BitVec 32 := Scalar.muli c2_i32 v9
  let v12 : BitVec 32 := Scalar.addi v10 v11
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_4 : BitVec 32 := 1#32
  let v13 : BitVec 32 := Scalar.andi v9 c1_i32_4
  let v14 : BitVec 32 := Scalar.xori v8 v13
  let v15 : BitVec 32 := Scalar.addi v12 v14
  let c1_i32_98 : BitVec 32 := 1#32
  let v140 : BitVec 32 := Scalar.muli v15 c1_i32_98
  let v141 : BitVec 32 := Scalar.addi c0_i32_99 v140
  v141.toNat
def k0_mult10 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c3_i32_101 : BitVec 32 := 3#32
  let v147 : BitVec 32 := Scalar.xori v121 c3_i32_101
  let c64_i32_102 : BitVec 32 := 64#32
  let v148 : BitVec 32 := Scalar.muli v147 c64_i32_102
  let v149 : BitVec 32 := Scalar.addi v57 v148
  v149
def k0_dev14 (d0 : Dev nD) : Nat :=
  let c0_i32_105 : BitVec 32 := 0#32
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v10 : BitVec 32 := Scalar.muli c8_i32 v3
  let c2_i32 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_3 : BitVec 32 := 1#32
  let v9 : BitVec 32 := Scalar.xori v5 c1_i32_3
  let v11 : BitVec 32 := Scalar.muli c2_i32 v9
  let v12 : BitVec 32 := Scalar.addi v10 v11
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_4 : BitVec 32 := 1#32
  let v13 : BitVec 32 := Scalar.andi v9 c1_i32_4
  let v14 : BitVec 32 := Scalar.xori v8 v13
  let v15 : BitVec 32 := Scalar.addi v12 v14
  let c8_i32_9 : BitVec 32 := 8#32
  let v20 : BitVec 32 := Scalar.xori v15 c8_i32_9
  let c1_i32_104 : BitVec 32 := 1#32
  let v151 : BitVec 32 := Scalar.muli v20 c1_i32_104
  let v152 : BitVec 32 := Scalar.addi c0_i32_105 v151
  v152.toNat
def k0_off5 (d0 : Dev nD) : Fin 2 → Nat :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let v182 : Index := Scalar.indexCast v70
  let c0_134 : Index := 0#32
  ![v182.toNat, 0]
def k0_mult11 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  v197
def k0_mult12 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c2_i32_144 : BitVec 32 := 2#32
  let v199 : BitVec 32 := Scalar.xori v195 c2_i32_144
  let c32_i32_145 : BitVec 32 := 32#32
  let v200 : BitVec 32 := Scalar.muli v199 c32_i32_145
  let v201 : BitVec 32 := Scalar.addi v70 v200
  v201
def k0_off6 (d0 : Dev nD) (c2_i32_144 : BitVec 32) : Fin 2 → Nat :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let v199 : BitVec 32 := Scalar.xori v195 c2_i32_144
  let c32_i32_145 : BitVec 32 := 32#32
  let v200 : BitVec 32 := Scalar.muli v199 c32_i32_145
  let v201 : BitVec 32 := Scalar.addi v70 v200
  let v202 : BitVec 32 := v201
  let c0_i32_150 : BitVec 32 := 0#32
  ![v202.toNat, 0]
def k0_dev15 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v25 : BitVec 32 := Scalar.xori v2 c16_i32
  let c1_i32_148 : BitVec 32 := 1#32
  let v203 : BitVec 32 := Scalar.muli v25 c1_i32_148
  let v204 : BitVec 32 := Scalar.addi c0_i32_149 v203
  v204.toNat
def k0_mult13 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c1_i32_151 : BitVec 32 := 1#32
  let v210 : BitVec 32 := Scalar.xori v195 c1_i32_151
  let c32_i32_152 : BitVec 32 := 32#32
  let v211 : BitVec 32 := Scalar.muli v210 c32_i32_152
  let v212 : BitVec 32 := Scalar.addi v70 v211
  v212
def k0_dev16 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v26 : BitVec 32 := Scalar.xori v2 c4_i32
  let c1_i32_155 : BitVec 32 := 1#32
  let v214 : BitVec 32 := Scalar.muli v26 c1_i32_155
  let v215 : BitVec 32 := Scalar.addi c0_i32_156 v214
  v215.toNat
def k0_mult14 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c3_i32_158 : BitVec 32 := 3#32
  let v221 : BitVec 32 := Scalar.xori v195 c3_i32_158
  let c32_i32_159 : BitVec 32 := 32#32
  let v222 : BitVec 32 := Scalar.muli v221 c32_i32_159
  let v223 : BitVec 32 := Scalar.addi v70 v222
  v223
def k0_dev17 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v27 : BitVec 32 := Scalar.xori v2 c20_i32
  let c1_i32_161 : BitVec 32 := 1#32
  let v225 : BitVec 32 := Scalar.muli v27 c1_i32_161
  let v226 : BitVec 32 := Scalar.addi c0_i32_162 v225
  v226.toNat
def k0_off7 (d0 : Dev nD) : Fin 2 → Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let v256 : Index := Scalar.indexCast v124
  let c0_191 : Index := 0#32
  ![v256.toNat, 0]
def k0_mult15 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  v271
def k0_mult16 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c2_i32_201 : BitVec 32 := 2#32
  let v273 : BitVec 32 := Scalar.xori v269 c2_i32_201
  let c16_i32_202 : BitVec 32 := 16#32
  let v274 : BitVec 32 := Scalar.muli v273 c16_i32_202
  let v275 : BitVec 32 := Scalar.addi v124 v274
  v275
def k0_off8 (d0 : Dev nD) (c2_i32_201 : BitVec 32) : Fin 2 → Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let v273 : BitVec 32 := Scalar.xori v269 c2_i32_201
  let c16_i32_202 : BitVec 32 := 16#32
  let v274 : BitVec 32 := Scalar.muli v273 c16_i32_202
  let v275 : BitVec 32 := Scalar.addi v124 v274
  let v276 : BitVec 32 := v275
  let c0_i32_206 : BitVec 32 := 0#32
  ![v276.toNat, 0]
def k0_dev18 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v25 : BitVec 32 := Scalar.xori v2 c16_i32
  let c1_i32_204 : BitVec 32 := 1#32
  let v277 : BitVec 32 := Scalar.muli v25 c1_i32_204
  let v278 : BitVec 32 := Scalar.addi c0_i32_205 v277
  v278.toNat
def k0_mult17 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c1_i32_207 : BitVec 32 := 1#32
  let v284 : BitVec 32 := Scalar.xori v269 c1_i32_207
  let c16_i32_208 : BitVec 32 := 16#32
  let v285 : BitVec 32 := Scalar.muli v284 c16_i32_208
  let v286 : BitVec 32 := Scalar.addi v124 v285
  v286
def k0_dev19 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v26 : BitVec 32 := Scalar.xori v2 c4_i32
  let c1_i32_210 : BitVec 32 := 1#32
  let v288 : BitVec 32 := Scalar.muli v26 c1_i32_210
  let v289 : BitVec 32 := Scalar.addi c0_i32_211 v288
  v289.toNat
def k0_mult18 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c3_i32_213 : BitVec 32 := 3#32
  let v295 : BitVec 32 := Scalar.xori v269 c3_i32_213
  let c16_i32_214 : BitVec 32 := 16#32
  let v296 : BitVec 32 := Scalar.muli v295 c16_i32_214
  let v297 : BitVec 32 := Scalar.addi v124 v296
  v297
def k0_dev20 (d0 : Dev nD) : Nat :=
  let c0_i32_217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v27 : BitVec 32 := Scalar.xori v2 c20_i32
  let c1_i32_216 : BitVec 32 := 1#32
  let v299 : BitVec 32 := Scalar.muli v27 c1_i32_216
  let v300 : BitVec 32 := Scalar.addi c0_i32_217 v299
  v300.toNat
def k0_off9 (d0 : Dev nD) : Fin 2 → Nat :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let v330 : Index := Scalar.indexCast v198
  let c0_246 : Index := 0#32
  ![v330.toNat, 0]
def k0_mult19 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  v346
def k0_mult20 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_254 : BitVec 32 := 1#32
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let v342 : BitVec 32 := Scalar.subi c1_i32_254 v8
  let c16_i32_255 : BitVec 32 := 16#32
  let v343 : BitVec 32 := Scalar.muli v342 c16_i32_255
  let v344 : BitVec 32 := Scalar.addi v198 v343
  v344
def k0_off10 (d0 : Dev nD) : Fin 2 → Nat :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_254 : BitVec 32 := 1#32
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let v342 : BitVec 32 := Scalar.subi c1_i32_254 v8
  let c16_i32_255 : BitVec 32 := 16#32
  let v343 : BitVec 32 := Scalar.muli v342 c16_i32_255
  let v344 : BitVec 32 := Scalar.addi v198 v343
  let v348 : BitVec 32 := v344
  let c0_i32_260 : BitVec 32 := 0#32
  ![v348.toNat, 0]
def k0_dev21 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v16 : BitVec 32 := Scalar.xori v2 c1_i32_5
  let c1_i32_258 : BitVec 32 := 1#32
  let v349 : BitVec 32 := Scalar.muli v16 c1_i32_258
  let v350 : BitVec 32 := Scalar.addi c0_i32_259 v349
  v350.toNat
def k0_off11 (d0 : Dev nD) : Fin 2 → Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let v380 : Index := Scalar.indexCast v272
  let c0_288 : Index := 0#32
  ![v380.toNat, 0]
def k0_off12 (d0 : Dev nD) : Fin 2 → Nat :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let v400 : Index := Scalar.indexCast v347
  let c0_305 : Index := 0#32
  ![v400.toNat, 0]
def k0_mult21 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  v411
def k0_mult22 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  v272
def k0_mult23 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  v272
def k0_off13 (d0 : Dev nD) : Fin 2 → Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let v414 : BitVec 32 := v272
  let c0_i32_314 : BitVec 32 := 0#32
  ![v414.toNat, 0]
def k0_dev22 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v25 : BitVec 32 := Scalar.xori v2 c16_i32
  let c1_i32_312 : BitVec 32 := 1#32
  let v415 : BitVec 32 := Scalar.muli v25 c1_i32_312
  let v416 : BitVec 32 := Scalar.addi c0_i32_313 v415
  v416.toNat
def k0_mult24 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  v272
def k0_mult25 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  v272
def k0_dev23 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v26 : BitVec 32 := Scalar.xori v2 c4_i32
  let c1_i32_317 : BitVec 32 := 1#32
  let v425 : BitVec 32 := Scalar.muli v26 c1_i32_317
  let v426 : BitVec 32 := Scalar.addi c0_i32_318 v425
  v426.toNat
def k0_mult26 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  v272
def k0_mult27 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  v272
def k0_dev24 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v27 : BitVec 32 := Scalar.xori v2 c20_i32
  let c1_i32_323 : BitVec 32 := 1#32
  let v435 : BitVec 32 := Scalar.muli v27 c1_i32_323
  let v436 : BitVec 32 := Scalar.addi c0_i32_324 v435
  v436.toNat
def k0_mult28 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let c2_i32_327 : BitVec 32 := 2#32
  let v443 : BitVec 32 := Scalar.xori v409 c2_i32_327
  let c16_i32_328 : BitVec 32 := 16#32
  let v444 : BitVec 32 := Scalar.muli v443 c16_i32_328
  let v445 : BitVec 32 := Scalar.addi v412 v444
  v445
def k0_mult29 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let c1_i32_329 : BitVec 32 := 1#32
  let v447 : BitVec 32 := Scalar.xori v409 c1_i32_329
  let c16_i32_330 : BitVec 32 := 16#32
  let v448 : BitVec 32 := Scalar.muli v447 c16_i32_330
  let v449 : BitVec 32 := Scalar.addi v412 v448
  v449
def k0_mult30 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let c3_i32_331 : BitVec 32 := 3#32
  let v451 : BitVec 32 := Scalar.xori v409 c3_i32_331
  let c16_i32_332 : BitVec 32 := 16#32
  let v452 : BitVec 32 := Scalar.muli v451 c16_i32_332
  let v453 : BitVec 32 := Scalar.addi v412 v452
  v453
def k0_mult31 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  v456
def k0_mult32 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  v347
def k0_mult33 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  v347
def k0_off14 (d0 : Dev nD) : Fin 2 → Nat :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let v459 : BitVec 32 := v347
  let c0_i32_337 : BitVec 32 := 0#32
  ![v459.toNat, 0]
def k0_dev25 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v16 : BitVec 32 := Scalar.xori v2 c1_i32_5
  let c1_i32_335 : BitVec 32 := 1#32
  let v460 : BitVec 32 := Scalar.muli v16 c1_i32_335
  let v461 : BitVec 32 := Scalar.addi c0_i32_336 v460
  v461.toNat
def k0_mult34 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c1_i32_339 : BitVec 32 := 1#32
  let v468 : BitVec 32 := Scalar.subi c1_i32_339 v8
  let c16_i32_340 : BitVec 32 := 16#32
  let v469 : BitVec 32 := Scalar.muli v468 c16_i32_340
  let v470 : BitVec 32 := Scalar.addi v457 v469
  v470
def k0_mult35 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let c2_i32_378 : BitVec 32 := 2#32
  let v512 : BitVec 32 := Scalar.muli c2_i32_378 v17
  let v513 : BitVec 32 := Scalar.addi v512 v18
  let c64_i32_379 : BitVec 32 := 64#32
  let v514 : BitVec 32 := Scalar.muli v513 c64_i32_379
  let v515 : BitVec 32 := Scalar.subi v412 v514
  v515
def k0_mult36 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  v412
def k0_mult37 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  v412
def k0_off15 (d0 : Dev nD) : Fin 2 → Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let v518 : BitVec 32 := v412
  let c0_i32_383 : BitVec 32 := 0#32
  ![v518.toNat, 0]
def k0_dev26 (d0 : Dev nD) : Nat :=
  let c0_i32_382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_8 : BitVec 32 := 8#32
  let v19 : BitVec 32 := Scalar.xori v2 c8_i32_8
  let c1_i32_381 : BitVec 32 := 1#32
  let v519 : BitVec 32 := Scalar.muli v19 c1_i32_381
  let v520 : BitVec 32 := Scalar.addi c0_i32_382 v519
  v520.toNat
def k0_mult38 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  v412
def k0_mult39 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  v412
def k0_dev27 (d0 : Dev nD) : Nat :=
  let c0_i32_387 : BitVec 32 := 0#32
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v10 : BitVec 32 := Scalar.muli c8_i32 v3
  let c2_i32 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_3 : BitVec 32 := 1#32
  let v9 : BitVec 32 := Scalar.xori v5 c1_i32_3
  let v11 : BitVec 32 := Scalar.muli c2_i32 v9
  let v12 : BitVec 32 := Scalar.addi v10 v11
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_4 : BitVec 32 := 1#32
  let v13 : BitVec 32 := Scalar.andi v9 c1_i32_4
  let v14 : BitVec 32 := Scalar.xori v8 v13
  let v15 : BitVec 32 := Scalar.addi v12 v14
  let c1_i32_386 : BitVec 32 := 1#32
  let v529 : BitVec 32 := Scalar.muli v15 c1_i32_386
  let v530 : BitVec 32 := Scalar.addi c0_i32_387 v529
  v530.toNat
def k0_mult40 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  v412
def k0_mult41 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  v412
def k0_dev28 (d0 : Dev nD) : Nat :=
  let c0_i32_393 : BitVec 32 := 0#32
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v10 : BitVec 32 := Scalar.muli c8_i32 v3
  let c2_i32 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_3 : BitVec 32 := 1#32
  let v9 : BitVec 32 := Scalar.xori v5 c1_i32_3
  let v11 : BitVec 32 := Scalar.muli c2_i32 v9
  let v12 : BitVec 32 := Scalar.addi v10 v11
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_4 : BitVec 32 := 1#32
  let v13 : BitVec 32 := Scalar.andi v9 c1_i32_4
  let v14 : BitVec 32 := Scalar.xori v8 v13
  let v15 : BitVec 32 := Scalar.addi v12 v14
  let c8_i32_9 : BitVec 32 := 8#32
  let v20 : BitVec 32 := Scalar.xori v15 c8_i32_9
  let c1_i32_392 : BitVec 32 := 1#32
  let v539 : BitVec 32 := Scalar.muli v20 c1_i32_392
  let v540 : BitVec 32 := Scalar.addi c0_i32_393 v539
  v540.toNat
def k0_mult42 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let c2_i32_378 : BitVec 32 := 2#32
  let v512 : BitVec 32 := Scalar.muli c2_i32_378 v17
  let v513 : BitVec 32 := Scalar.addi v512 v18
  let c64_i32_379 : BitVec 32 := 64#32
  let v514 : BitVec 32 := Scalar.muli v513 c64_i32_379
  let v515 : BitVec 32 := Scalar.subi v412 v514
  let v516 : BitVec 32 := v515
  let c2_i32_396 : BitVec 32 := 2#32
  let v547 : BitVec 32 := Scalar.xori v513 c2_i32_396
  let c64_i32_397 : BitVec 32 := 64#32
  let v548 : BitVec 32 := Scalar.muli v547 c64_i32_397
  let v549 : BitVec 32 := Scalar.addi v516 v548
  v549
def k0_mult43 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let c2_i32_378 : BitVec 32 := 2#32
  let v512 : BitVec 32 := Scalar.muli c2_i32_378 v17
  let v513 : BitVec 32 := Scalar.addi v512 v18
  let c64_i32_379 : BitVec 32 := 64#32
  let v514 : BitVec 32 := Scalar.muli v513 c64_i32_379
  let v515 : BitVec 32 := Scalar.subi v412 v514
  let v516 : BitVec 32 := v515
  let c1_i32_398 : BitVec 32 := 1#32
  let v551 : BitVec 32 := Scalar.xori v513 c1_i32_398
  let c64_i32_399 : BitVec 32 := 64#32
  let v552 : BitVec 32 := Scalar.muli v551 c64_i32_399
  let v553 : BitVec 32 := Scalar.addi v516 v552
  v553
def k0_mult44 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let c2_i32_378 : BitVec 32 := 2#32
  let v512 : BitVec 32 := Scalar.muli c2_i32_378 v17
  let v513 : BitVec 32 := Scalar.addi v512 v18
  let c64_i32_379 : BitVec 32 := 64#32
  let v514 : BitVec 32 := Scalar.muli v513 c64_i32_379
  let v515 : BitVec 32 := Scalar.subi v412 v514
  let v516 : BitVec 32 := v515
  let c3_i32_400 : BitVec 32 := 3#32
  let v555 : BitVec 32 := Scalar.xori v513 c3_i32_400
  let c64_i32_401 : BitVec 32 := 64#32
  let v556 : BitVec 32 := Scalar.muli v555 c64_i32_401
  let v557 : BitVec 32 := Scalar.addi v516 v556
  v557
def k0_mult45 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  v572
def k0_mult46 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  v457
def k0_mult47 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  v457
def k0_off16 (d0 : Dev nD) : Fin 2 → Nat :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let v575 : BitVec 32 := v457
  let c0_i32_418 : BitVec 32 := 0#32
  ![v575.toNat, 0]
def k0_dev29 (d0 : Dev nD) : Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v25 : BitVec 32 := Scalar.xori v2 c16_i32
  let c1_i32_416 : BitVec 32 := 1#32
  let v576 : BitVec 32 := Scalar.muli v25 c1_i32_416
  let v577 : BitVec 32 := Scalar.addi c0_i32_417 v576
  v577.toNat
def k0_mult48 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  v457
def k0_mult49 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  v457
def k0_dev30 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v26 : BitVec 32 := Scalar.xori v2 c4_i32
  let c1_i32_421 : BitVec 32 := 1#32
  let v586 : BitVec 32 := Scalar.muli v26 c1_i32_421
  let v587 : BitVec 32 := Scalar.addi c0_i32_422 v586
  v587.toNat
def k0_mult50 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  v457
def k0_mult51 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  v457
def k0_dev31 (d0 : Dev nD) : Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v27 : BitVec 32 := Scalar.xori v2 c20_i32
  let c1_i32_426 : BitVec 32 := 1#32
  let v596 : BitVec 32 := Scalar.muli v27 c1_i32_426
  let v597 : BitVec 32 := Scalar.addi c0_i32_427 v596
  v597.toNat
def k0_mult52 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  let c2_i32_430 : BitVec 32 := 2#32
  let v604 : BitVec 32 := Scalar.xori v570 c2_i32_430
  let c32_i32_431 : BitVec 32 := 32#32
  let v605 : BitVec 32 := Scalar.muli v604 c32_i32_431
  let v606 : BitVec 32 := Scalar.addi v573 v605
  v606
def k0_mult53 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  let c1_i32_432 : BitVec 32 := 1#32
  let v608 : BitVec 32 := Scalar.xori v570 c1_i32_432
  let c32_i32_433 : BitVec 32 := 32#32
  let v609 : BitVec 32 := Scalar.muli v608 c32_i32_433
  let v610 : BitVec 32 := Scalar.addi v573 v609
  v610
def k0_mult54 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  let c3_i32_434 : BitVec 32 := 3#32
  let v612 : BitVec 32 := Scalar.xori v570 c3_i32_434
  let c32_i32_435 : BitVec 32 := 32#32
  let v613 : BitVec 32 := Scalar.muli v612 c32_i32_435
  let v614 : BitVec 32 := Scalar.addi v573 v613
  v614
def k0_off17 (d0 : Dev nD) (c2_i32_327 : BitVec 32) : Fin 2 → Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let v443 : BitVec 32 := Scalar.xori v409 c2_i32_327
  let c16_i32_328 : BitVec 32 := 16#32
  let v444 : BitVec 32 := Scalar.muli v443 c16_i32_328
  let v445 : BitVec 32 := Scalar.addi v412 v444
  let v446 : BitVec 32 := v445
  let v616 : Index := Scalar.indexCast v446
  let c0_436 : Index := 0#32
  ![v616.toNat, 0]
def k0_off18 (d0 : Dev nD) : Fin 2 → Nat :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c1_i32_339 : BitVec 32 := 1#32
  let v468 : BitVec 32 := Scalar.subi c1_i32_339 v8
  let c16_i32_340 : BitVec 32 := 16#32
  let v469 : BitVec 32 := Scalar.muli v468 c16_i32_340
  let v470 : BitVec 32 := Scalar.addi v457 v469
  let v471 : BitVec 32 := v470
  let v631 : Index := Scalar.indexCast v471
  let c0_442 : Index := 0#32
  ![v631.toNat, 0]
def k0_mult55 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let c2_i32_378 : BitVec 32 := 2#32
  let v512 : BitVec 32 := Scalar.muli c2_i32_378 v17
  let v513 : BitVec 32 := Scalar.addi v512 v18
  let c64_i32_379 : BitVec 32 := 64#32
  let v514 : BitVec 32 := Scalar.muli v513 c64_i32_379
  let v515 : BitVec 32 := Scalar.subi v412 v514
  let v516 : BitVec 32 := v515
  let c256_i32_477 : BitVec 32 := 256#32
  let v666 : BitVec 32 := Scalar.muli v8 c256_i32_477
  let v667 : BitVec 32 := Scalar.subi v516 v666
  v667
def k0_mult56 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let c2_i32_378 : BitVec 32 := 2#32
  let v512 : BitVec 32 := Scalar.muli c2_i32_378 v17
  let v513 : BitVec 32 := Scalar.addi v512 v18
  let c64_i32_379 : BitVec 32 := 64#32
  let v514 : BitVec 32 := Scalar.muli v513 c64_i32_379
  let v515 : BitVec 32 := Scalar.subi v412 v514
  let v516 : BitVec 32 := v515
  v516
def k0_mult57 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let c2_i32_378 : BitVec 32 := 2#32
  let v512 : BitVec 32 := Scalar.muli c2_i32_378 v17
  let v513 : BitVec 32 := Scalar.addi v512 v18
  let c64_i32_379 : BitVec 32 := 64#32
  let v514 : BitVec 32 := Scalar.muli v513 c64_i32_379
  let v515 : BitVec 32 := Scalar.subi v412 v514
  let v516 : BitVec 32 := v515
  v516
def k0_off19 (d0 : Dev nD) : Fin 2 → Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let c2_i32_378 : BitVec 32 := 2#32
  let v512 : BitVec 32 := Scalar.muli c2_i32_378 v17
  let v513 : BitVec 32 := Scalar.addi v512 v18
  let c64_i32_379 : BitVec 32 := 64#32
  let v514 : BitVec 32 := Scalar.muli v513 c64_i32_379
  let v515 : BitVec 32 := Scalar.subi v412 v514
  let v516 : BitVec 32 := v515
  let v670 : BitVec 32 := v516
  let c0_i32_481 : BitVec 32 := 0#32
  ![v670.toNat, 0]
def k0_dev32 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v16 : BitVec 32 := Scalar.xori v2 c1_i32_5
  let c1_i32_479 : BitVec 32 := 1#32
  let v671 : BitVec 32 := Scalar.muli v16 c1_i32_479
  let v672 : BitVec 32 := Scalar.addi c0_i32_480 v671
  v672.toNat
def k0_mult58 (d0 : Dev nD) : BitVec 32 :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let c2_i32_378 : BitVec 32 := 2#32
  let v512 : BitVec 32 := Scalar.muli c2_i32_378 v17
  let v513 : BitVec 32 := Scalar.addi v512 v18
  let c64_i32_379 : BitVec 32 := 64#32
  let v514 : BitVec 32 := Scalar.muli v513 c64_i32_379
  let v515 : BitVec 32 := Scalar.subi v412 v514
  let v516 : BitVec 32 := v515
  let c256_i32_477 : BitVec 32 := 256#32
  let v666 : BitVec 32 := Scalar.muli v8 c256_i32_477
  let v667 : BitVec 32 := Scalar.subi v516 v666
  let v668 : BitVec 32 := v667
  let c1_i32_483 : BitVec 32 := 1#32
  let v679 : BitVec 32 := Scalar.subi c1_i32_483 v8
  let c256_i32_484 : BitVec 32 := 256#32
  let v680 : BitVec 32 := Scalar.muli v679 c256_i32_484
  let v681 : BitVec 32 := Scalar.addi v668 v680
  v681
def k0_mult59 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  let c2_i32_518 : BitVec 32 := 2#32
  let v713 : BitVec 32 := Scalar.muli c2_i32_518 v17
  let v714 : BitVec 32 := Scalar.addi v713 v18
  let c128_i32_519 : BitVec 32 := 128#32
  let v715 : BitVec 32 := Scalar.muli v714 c128_i32_519
  let v716 : BitVec 32 := Scalar.subi v573 v715
  v716
def k0_mult60 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  v573
def k0_mult61 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  v573
def k0_off20 (d0 : Dev nD) : Fin 2 → Nat :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  let v719 : BitVec 32 := v573
  let c0_i32_523 : BitVec 32 := 0#32
  ![v719.toNat, 0]
def k0_dev33 (d0 : Dev nD) : Nat :=
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_8 : BitVec 32 := 8#32
  let v19 : BitVec 32 := Scalar.xori v2 c8_i32_8
  let c1_i32_521 : BitVec 32 := 1#32
  let v720 : BitVec 32 := Scalar.muli v19 c1_i32_521
  let v721 : BitVec 32 := Scalar.addi c0_i32_522 v720
  v721.toNat
def k0_mult62 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  v573
def k0_mult63 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  v573
def k0_dev34 (d0 : Dev nD) : Nat :=
  let c0_i32_527 : BitVec 32 := 0#32
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v10 : BitVec 32 := Scalar.muli c8_i32 v3
  let c2_i32 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_3 : BitVec 32 := 1#32
  let v9 : BitVec 32 := Scalar.xori v5 c1_i32_3
  let v11 : BitVec 32 := Scalar.muli c2_i32 v9
  let v12 : BitVec 32 := Scalar.addi v10 v11
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_4 : BitVec 32 := 1#32
  let v13 : BitVec 32 := Scalar.andi v9 c1_i32_4
  let v14 : BitVec 32 := Scalar.xori v8 v13
  let v15 : BitVec 32 := Scalar.addi v12 v14
  let c1_i32_526 : BitVec 32 := 1#32
  let v730 : BitVec 32 := Scalar.muli v15 c1_i32_526
  let v731 : BitVec 32 := Scalar.addi c0_i32_527 v730
  v731.toNat
def k0_mult64 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  v573
def k0_mult65 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  v573
def k0_dev35 (d0 : Dev nD) : Nat :=
  let c0_i32_532 : BitVec 32 := 0#32
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let v10 : BitVec 32 := Scalar.muli c8_i32 v3
  let c2_i32 : BitVec 32 := 2#32
  let c7_i32 : BitVec 32 := 7#32
  let v4 : BitVec 32 := Scalar.andi v2 c7_i32
  let c1_i32_0 : BitVec 32 := 1#32
  let v5 : BitVec 32 := Scalar.shrsi v4 c1_i32_0
  let c1_i32_3 : BitVec 32 := 1#32
  let v9 : BitVec 32 := Scalar.xori v5 c1_i32_3
  let v11 : BitVec 32 := Scalar.muli c2_i32 v9
  let v12 : BitVec 32 := Scalar.addi v10 v11
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_4 : BitVec 32 := 1#32
  let v13 : BitVec 32 := Scalar.andi v9 c1_i32_4
  let v14 : BitVec 32 := Scalar.xori v8 v13
  let v15 : BitVec 32 := Scalar.addi v12 v14
  let c8_i32_9 : BitVec 32 := 8#32
  let v20 : BitVec 32 := Scalar.xori v15 c8_i32_9
  let c1_i32_531 : BitVec 32 := 1#32
  let v740 : BitVec 32 := Scalar.muli v20 c1_i32_531
  let v741 : BitVec 32 := Scalar.addi c0_i32_532 v740
  v741.toNat
def k0_mult66 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  let c2_i32_518 : BitVec 32 := 2#32
  let v713 : BitVec 32 := Scalar.muli c2_i32_518 v17
  let v714 : BitVec 32 := Scalar.addi v713 v18
  let c128_i32_519 : BitVec 32 := 128#32
  let v715 : BitVec 32 := Scalar.muli v714 c128_i32_519
  let v716 : BitVec 32 := Scalar.subi v573 v715
  let v717 : BitVec 32 := v716
  let c2_i32_535 : BitVec 32 := 2#32
  let v748 : BitVec 32 := Scalar.xori v714 c2_i32_535
  let c128_i32_536 : BitVec 32 := 128#32
  let v749 : BitVec 32 := Scalar.muli v748 c128_i32_536
  let v750 : BitVec 32 := Scalar.addi v717 v749
  v750
def k0_mult67 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  let c2_i32_518 : BitVec 32 := 2#32
  let v713 : BitVec 32 := Scalar.muli c2_i32_518 v17
  let v714 : BitVec 32 := Scalar.addi v713 v18
  let c128_i32_519 : BitVec 32 := 128#32
  let v715 : BitVec 32 := Scalar.muli v714 c128_i32_519
  let v716 : BitVec 32 := Scalar.subi v573 v715
  let v717 : BitVec 32 := v716
  let c1_i32_537 : BitVec 32 := 1#32
  let v752 : BitVec 32 := Scalar.xori v714 c1_i32_537
  let c128_i32_538 : BitVec 32 := 128#32
  let v753 : BitVec 32 := Scalar.muli v752 c128_i32_538
  let v754 : BitVec 32 := Scalar.addi v717 v753
  v754
def k0_mult68 (d0 : Dev nD) : BitVec 32 :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  let c2_i32_518 : BitVec 32 := 2#32
  let v713 : BitVec 32 := Scalar.muli c2_i32_518 v17
  let v714 : BitVec 32 := Scalar.addi v713 v18
  let c128_i32_519 : BitVec 32 := 128#32
  let v715 : BitVec 32 := Scalar.muli v714 c128_i32_519
  let v716 : BitVec 32 := Scalar.subi v573 v715
  let v717 : BitVec 32 := v716
  let c3_i32_539 : BitVec 32 := 3#32
  let v756 : BitVec 32 := Scalar.xori v714 c3_i32_539
  let c128_i32_540 : BitVec 32 := 128#32
  let v757 : BitVec 32 := Scalar.muli v756 c128_i32_540
  let v758 : BitVec 32 := Scalar.addi v717 v757
  v758
def k0_off21 (d0 : Dev nD) (c2_i32_396 : BitVec 32) : Fin 2 → Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let c2_i32_378 : BitVec 32 := 2#32
  let v512 : BitVec 32 := Scalar.muli c2_i32_378 v17
  let v513 : BitVec 32 := Scalar.addi v512 v18
  let c64_i32_379 : BitVec 32 := 64#32
  let v514 : BitVec 32 := Scalar.muli v513 c64_i32_379
  let v515 : BitVec 32 := Scalar.subi v412 v514
  let v516 : BitVec 32 := v515
  let v547 : BitVec 32 := Scalar.xori v513 c2_i32_396
  let c64_i32_397 : BitVec 32 := 64#32
  let v548 : BitVec 32 := Scalar.muli v547 c64_i32_397
  let v549 : BitVec 32 := Scalar.addi v516 v548
  let v550 : BitVec 32 := v549
  let v760 : Index := Scalar.indexCast v550
  let c0_541 : Index := 0#32
  ![v760.toNat, 0]
def k0_off22 (d0 : Dev nD) (c2_i32_430 : BitVec 32) : Fin 2 → Nat :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  let v604 : BitVec 32 := Scalar.xori v570 c2_i32_430
  let c32_i32_431 : BitVec 32 := 32#32
  let v605 : BitVec 32 := Scalar.muli v604 c32_i32_431
  let v606 : BitVec 32 := Scalar.addi v573 v605
  let v607 : BitVec 32 := v606
  let v775 : Index := Scalar.indexCast v607
  let c0_547 : Index := 0#32
  ![v775.toNat, 0]
def k0_off23 (d0 : Dev nD) : Fin 2 → Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c256_i32_42 : BitVec 32 := 256#32
  let v55 : BitVec 32 := Scalar.muli v8 c256_i32_42
  let v56 : BitVec 32 := Scalar.addi c0_i32_43 v55
  let v57 : BitVec 32 := v56
  let c2_i32_87 : BitVec 32 := 2#32
  let c3_i32 : BitVec 32 := 3#32
  let v3 : BitVec 32 := Scalar.shrsi v2 c3_i32
  let c1_i32_6 : BitVec 32 := 1#32
  let v17 : BitVec 32 := Scalar.andi v3 c1_i32_6
  let v120 : BitVec 32 := Scalar.muli c2_i32_87 v17
  let c1_i32_7 : BitVec 32 := 1#32
  let v18 : BitVec 32 := Scalar.andi v5 c1_i32_7
  let v121 : BitVec 32 := Scalar.addi v120 v18
  let c64_i32 : BitVec 32 := 64#32
  let v122 : BitVec 32 := Scalar.muli v121 c64_i32
  let v123 : BitVec 32 := Scalar.addi v57 v122
  let v124 : BitVec 32 := v123
  let c2_i32_199 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v268 : BitVec 32 := Scalar.muli c2_i32_199 v22
  let c1_i32_12 : BitVec 32 := 1#32
  let v23 : BitVec 32 := Scalar.shrsi v5 c1_i32_12
  let c1_i32_13 : BitVec 32 := 1#32
  let v24 : BitVec 32 := Scalar.andi v23 c1_i32_13
  let v269 : BitVec 32 := Scalar.addi v268 v24
  let c16_i32_200 : BitVec 32 := 16#32
  let v270 : BitVec 32 := Scalar.muli v269 c16_i32_200
  let v271 : BitVec 32 := Scalar.addi v124 v270
  let v272 : BitVec 32 := v271
  let c2_i32_309 : BitVec 32 := 2#32
  let v408 : BitVec 32 := Scalar.muli c2_i32_309 v22
  let v409 : BitVec 32 := Scalar.addi v408 v24
  let c16_i32_310 : BitVec 32 := 16#32
  let v410 : BitVec 32 := Scalar.muli v409 c16_i32_310
  let v411 : BitVec 32 := Scalar.subi v272 v410
  let v412 : BitVec 32 := v411
  let c2_i32_378 : BitVec 32 := 2#32
  let v512 : BitVec 32 := Scalar.muli c2_i32_378 v17
  let v513 : BitVec 32 := Scalar.addi v512 v18
  let c64_i32_379 : BitVec 32 := 64#32
  let v514 : BitVec 32 := Scalar.muli v513 c64_i32_379
  let v515 : BitVec 32 := Scalar.subi v412 v514
  let v516 : BitVec 32 := v515
  let c256_i32_477 : BitVec 32 := 256#32
  let v666 : BitVec 32 := Scalar.muli v8 c256_i32_477
  let v667 : BitVec 32 := Scalar.subi v516 v666
  let v668 : BitVec 32 := v667
  let c1_i32_483 : BitVec 32 := 1#32
  let v679 : BitVec 32 := Scalar.subi c1_i32_483 v8
  let c256_i32_484 : BitVec 32 := 256#32
  let v680 : BitVec 32 := Scalar.muli v679 c256_i32_484
  let v681 : BitVec 32 := Scalar.addi v668 v680
  let v682 : BitVec 32 := v681
  let v830 : Index := Scalar.indexCast v682
  let c0_597 : Index := 0#32
  ![v830.toNat, 0]
def k0_off24 (d0 : Dev nD) (c2_i32_535 : BitVec 32) : Fin 2 → Nat :=
  let c512_i32 : BitVec 32 := 512#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_6 : BitVec 32 := 1#32
  let v17 : BitVec 32 := Scalar.andi v3 c1_i32_6
  let v66 : BitVec 32 := Scalar.muli c2_i32_49 v17
  let c7_i32 : BitVec 32 := 7#32
  let v4 : BitVec 32 := Scalar.andi v2 c7_i32
  let c1_i32_0 : BitVec 32 := 1#32
  let v5 : BitVec 32 := Scalar.shrsi v4 c1_i32_0
  let c1_i32_7 : BitVec 32 := 1#32
  let v18 : BitVec 32 := Scalar.andi v5 c1_i32_7
  let v67 : BitVec 32 := Scalar.addi v66 v18
  let c128_i32 : BitVec 32 := 128#32
  let v68 : BitVec 32 := Scalar.muli v67 c128_i32
  let v69 : BitVec 32 := Scalar.addi c512_i32 v68
  let v70 : BitVec 32 := v69
  let c2_i32_142 : BitVec 32 := 2#32
  let c1_i32_10 : BitVec 32 := 1#32
  let v21 : BitVec 32 := Scalar.shrsi v3 c1_i32_10
  let c1_i32_11 : BitVec 32 := 1#32
  let v22 : BitVec 32 := Scalar.andi v21 c1_i32_11
  let v194 : BitVec 32 := Scalar.muli c2_i32_142 v22
  let c1_i32_12 : BitVec 32 := 1#32
  let v23 : BitVec 32 := Scalar.shrsi v5 c1_i32_12
  let c1_i32_13 : BitVec 32 := 1#32
  let v24 : BitVec 32 := Scalar.andi v23 c1_i32_13
  let v195 : BitVec 32 := Scalar.addi v194 v24
  let c32_i32_143 : BitVec 32 := 32#32
  let v196 : BitVec 32 := Scalar.muli v195 c32_i32_143
  let v197 : BitVec 32 := Scalar.addi v70 v196
  let v198 : BitVec 32 := v197
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c16_i32_256 : BitVec 32 := 16#32
  let v345 : BitVec 32 := Scalar.muli v8 c16_i32_256
  let v346 : BitVec 32 := Scalar.addi v198 v345
  let v347 : BitVec 32 := v346
  let c16_i32_333 : BitVec 32 := 16#32
  let v455 : BitVec 32 := Scalar.muli v8 c16_i32_333
  let v456 : BitVec 32 := Scalar.subi v347 v455
  let v457 : BitVec 32 := v456
  let c2_i32_413 : BitVec 32 := 2#32
  let v569 : BitVec 32 := Scalar.muli c2_i32_413 v22
  let v570 : BitVec 32 := Scalar.addi v569 v24
  let c32_i32_414 : BitVec 32 := 32#32
  let v571 : BitVec 32 := Scalar.muli v570 c32_i32_414
  let v572 : BitVec 32 := Scalar.subi v457 v571
  let v573 : BitVec 32 := v572
  let c2_i32_518 : BitVec 32 := 2#32
  let v713 : BitVec 32 := Scalar.muli c2_i32_518 v17
  let v714 : BitVec 32 := Scalar.addi v713 v18
  let c128_i32_519 : BitVec 32 := 128#32
  let v715 : BitVec 32 := Scalar.muli v714 c128_i32_519
  let v716 : BitVec 32 := Scalar.subi v573 v715
  let v717 : BitVec 32 := v716
  let v748 : BitVec 32 := Scalar.xori v714 c2_i32_535
  let c128_i32_536 : BitVec 32 := 128#32
  let v749 : BitVec 32 := Scalar.muli v748 c128_i32_536
  let v750 : BitVec 32 := Scalar.addi v717 v749
  let v751 : BitVec 32 := v750
  let v835 : Index := Scalar.indexCast v751
  let c0_599 : Index := 0#32
  ![v835.toNat, 0]
abbrev stage0_0 : Fin 1 → Memref sig .tc .vmem S1024x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Tables.lean ====
/-
Who exchanges which rows with whom.

The 32 devices form a cube with five directions. A device keeps, at each stage of the reduction, one
range of rows of its work buffer and sends the rows that its partners keep; the way back repeats the
stages in the opposite order. This module states the ranges and partners as arithmetic on the device's
number and shows that the words the kernel computes are those numbers.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Reduce

open Cert.KernelIdeal Cert.KernelIdeal.Gen
open Idealize.ShloMosaic

/-! ## Coordinates of a device -/

/-- The coordinate of the first direction. -/
def cx (c : Dev nD) : ℕ := (c.val + c.val / 2) % 2
/-- The two coordinates of the first exchange among four devices, as one number below four. -/
def c1 (c : Dev nD) : ℕ := 2 * (c.val / 8 % 2) + c.val / 2 % 2
/-- The two coordinates of the second exchange among four devices. -/
def c2 (c : Dev nD) : ℕ := 2 * (c.val / 16 % 2) + c.val / 4 % 2

/-! ## The ranges a device keeps -/

/-- Upper half of the rows: 256 kept, then 64, then 16. -/
def a1 (c : Dev nD) : ℕ := 256 * cx c
def a2 (c : Dev nD) : ℕ := a1 c + 64 * c1 c
def a3 (c : Dev nD) : ℕ := a2 c + 16 * c2 c
/-- Lower half: 128 kept, then 32, then 16. -/
def b1 (c : Dev nD) : ℕ := 512 + 128 * c1 c
def b2 (c : Dev nD) : ℕ := b1 c + 32 * c2 c
def b3 (c : Dev nD) : ℕ := b2 c + 16 * cx c

/-! ## The copies, numbered as their semaphores -/

/-- The seven partners of a device. -/
def flip : Fin 7 → ℕ := ![1, 8, 3, 11, 16, 4, 20]
def par (k : Fin 7) (c : Dev nD) : Dev nD := ⟨(c.val ^^^ flip k) % 32, Nat.mod_lt _ (by decide)⟩

theorem par_par : ∀ (k : Fin 7) (c : Dev nD), par k (par k c) = c := by decide +kernel
/-- The partner map as a permutation of the devices. -/
def parE (k : Fin 7) : Dev nD ≃ Dev nD := ⟨par k, par k, par_par k, par_par k⟩

/-- Which partner copy `i` goes to (and comes from). -/
def pk : Fin 28 → Fin 7 :=
  ![0, 1, 2, 3, 1, 2, 3, 4, 5, 6, 4, 5, 6, 0, 4, 5, 6, 0, 1, 2, 3, 4, 5, 6, 0, 1, 2, 3]
/-- How many rows copy `i` moves. -/
def len : Fin 28 → ℕ :=
  ![256, 128, 128, 128, 64, 64, 64, 32, 32, 32, 16, 16, 16, 16, 16, 16, 16, 16, 64, 64, 64, 32, 32, 32, 256, 128, 128, 128]
/-- The first row device `c` keeps at the stage of copy `i`. -/
def kLo : Fin 28 → Dev nD → ℕ :=
  ![a1, b1, b1, b1, a2, a2, a2, b2, b2, b2, a3, a3, a3, b3, a3, a3, a3, b3, a2, a2, a2, b2, b2, b2, a1, b1, b1, b1]
/-- The first row its partner keeps there. -/
def oLo (i : Fin 28) (c : Dev nD) : ℕ := kLo i (par (pk i) c)
/-- The first row copy `i` of device `c` reads: on the way in the partner's rows, on the way back its own. -/
def sLo (i : Fin 28) (c : Dev nD) : ℕ := if i.val < 14 then oLo i c else kLo i c

theorem oLo_par (i : Fin 28) (c : Dev nD) : oLo i (par (pk i) c) = kLo i c := by unfold oLo; rw [par_par]
theorem sLo_rs {i : Fin 28} (h : i.val < 14) (c : Dev nD) : sLo i c = oLo i c := if_pos h
theorem sLo_ag {i : Fin 28} (h : ¬ i.val < 14) (c : Dev nD) : sLo i c = kLo i c := if_neg h
theorem sLo_inb : ∀ (i : Fin 28) (c : Dev nD), sLo i c + len i ≤ 1024 := by decide +kernel
theorem kLo_inb : ∀ (i : Fin 28) (c : Dev nD), kLo i c + len i ≤ 1024 := by decide +kernel
theorem oLo_inb (i : Fin 28) (c : Dev nD) : oLo i c + len i ≤ 1024 := kLo_inb i _
theorem len_le : ∀ i : Fin 28, len i ≤ 1024 := by decide +kernel
theorem len_pos : ∀ i : Fin 28, 0 < len i := by decide +kernel

/-! ## The device numbers and row offsets the kernel computes -/

/-- The targets of the seven entry signals. -/
def bdev : Fin 7 → Dev nD → ℕ := ![k0_dev1, k0_dev2, k0_dev3, k0_dev4, k0_dev5, k0_dev6, k0_dev7]
theorem bdev_eq : ∀ k d, bdev k d = (par k d).val := by decide +kernel

/-- The targets of the copies. -/
def cdev : Fin 28 → Dev nD → ℕ :=
  ![k0_dev8, k0_dev9, k0_dev10, k0_dev11, k0_dev12, k0_dev13, k0_dev14, k0_dev15, k0_dev16, k0_dev17, k0_dev18, k0_dev19,
    k0_dev20, k0_dev21, k0_dev22, k0_dev23, k0_dev24, k0_dev25, k0_dev26, k0_dev27, k0_dev28, k0_dev29, k0_dev30, k0_dev31,
    k0_dev32, k0_dev33, k0_dev34, k0_dev35]
theorem cdev_eq : ∀ i d, cdev i d = (par (pk i) d).val := by decide +kernel

/-- The offsets of the copies' sources. -/
def coff : Fin 28 → Dev nD → Fin 2 → ℕ :=
  ![k0_off1, (k0_off2 · 2#32), (k0_off2 · 1#32), (k0_off2 · 3#32), (k0_off4 · 2#32), (k0_off4 · 1#32), (k0_off4 · 3#32),
    (k0_off6 · 2#32), (k0_off6 · 1#32), (k0_off6 · 3#32), (k0_off8 · 2#32), (k0_off8 · 1#32), (k0_off8 · 3#32), k0_off10,
    k0_off13, k0_off13, k0_off13, k0_off14, k0_off15, k0_off15, k0_off15, k0_off16, k0_off16, k0_off16, k0_off19,
    k0_off20, k0_off20, k0_off20]
theorem coff_eq : ∀ i d, coff i d = ![sLo i d, 0] := by decide +kernel

/-- The offsets of the ranges a device keeps, by the first copy of the stage. -/
def koff : Fin 6 → Dev nD → Fin 2 → ℕ := ![k0_off3, k0_off5, k0_off7, k0_off9, k0_off11, k0_off12]
/-- The first copy of each stage. -/
def fst6 : Fin 6 → Fin 28 := ![0, 1, 4, 7, 10, 13]
theorem koff_eq : ∀ g d, koff g d = ![kLo (fst6 g) d, 0] := by decide +kernel

/-- The offsets of the received ranges converted at the end, by the copy of the way in that sent them away. -/
def ooff : Fin 14 → Dev nD → Fin 2 → ℕ :=
  ![k0_off23, (k0_off24 · 2#32), (k0_off24 · 1#32), (k0_off24 · 3#32), (k0_off21 · 2#32), (k0_off21 · 1#32), (k0_off21 · 3#32),
    (k0_off22 · 2#32), (k0_off22 · 1#32), (k0_off22 · 3#32), (k0_off17 · 2#32), (k0_off17 · 1#32), (k0_off17 · 3#32), k0_off18]
/-- A copy of the way in among all copies. -/
def inn (i : Fin 14) : Fin 28 := ⟨i.val, by omega⟩
theorem ooff_eq : ∀ i d, ooff i d = ![oLo (inn i) d, 0] := by decide +kernel

/-! ## How the ranges of a stage tile the range before it -/

/-- `k` and `o` are the two halves of `2 n` rows from `b`. -/
def Halves (b n k o : ℕ) : Prop := (k = b ∧ o = b + n) ∨ (k = b + n ∧ o = b)
/-- `k`, `o`, `o'`, `o''` are the four quarters of `4 n` rows from `b`. -/
def Quarters (b n k o o' o'' : ℕ) : Prop :=
  (k = b ∧ o = b + 2 * n ∧ o' = b + n ∧ o'' = b + 3 * n) ∨ (k = b + n ∧ o = b + 3 * n ∧ o' = b ∧ o'' = b + 2 * n)
    ∨ (k = b + 2 * n ∧ o = b ∧ o' = b + 3 * n ∧ o'' = b + n) ∨ (k = b + 3 * n ∧ o = b + n ∧ o' = b + 2 * n ∧ o'' = b)
instance (b n k o : ℕ) : Decidable (Halves b n k o) := by unfold Halves; infer_instance
instance (b n k o o' o'' : ℕ) : Decidable (Quarters b n k o o' o'') := by unfold Quarters; infer_instance

theorem halves_a : ∀ c, Halves 0 256 (a1 c) (oLo 0 c) := by decide +kernel
theorem halves_b : ∀ c, Halves (b2 c) 16 (b3 c) (oLo 13 c) := by decide +kernel
theorem quarters_b1 : ∀ c, Quarters 512 128 (b1 c) (oLo 1 c) (oLo 2 c) (oLo 3 c) := by decide +kernel
theorem quarters_a2 : ∀ c, Quarters (a1 c) 64 (a2 c) (oLo 4 c) (oLo 5 c) (oLo 6 c) := by decide +kernel
theorem quarters_b2 : ∀ c, Quarters (b1 c) 32 (b2 c) (oLo 7 c) (oLo 8 c) (oLo 9 c) := by decide +kernel
theorem quarters_a3 : ∀ c, Quarters (a2 c) 16 (a3 c) (oLo 10 c) (oLo 11 c) (oLo 12 c) := by decide +kernel

end Cert.Reduce

end
-- ==== Proof.Rows.lean ====
/-
Ownership of row ranges of the work buffer: the buffers and views the kernel uses, the set of elements
under a range of rows, splitting a range into the ranges of a stage, and reading and writing through a range.
-/
module

public import proofs.«01_k».proof.Proof.Tables
public import Idealize.ShloMosaic.Lib.Pipeline.Launch
public import Idealize.ShloMosaic.Lib.Pipeline.Kit
public import Idealize.ShloMosaic.Lib.Tactic

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- Duties of a cell: the entry barrier has seven, every other cell uses duty `0` only. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers and views -/

/-- `n` rows of 1024 columns. -/
abbrev Sn (n : ℕ) : Shape := ⟨2, ![n, 1024]⟩

abbrev xM : Memref sig .tc .vmem S1024x32 .bf16 := Memref.whole cc0_stg0_0
abbrev wM : Memref sig .tc .vmem S32x1024 .bf16 := Memref.whole cc0_stg1_0
abbrev oM : Memref sig .tc .vmem S1024x1024 .f32 := Memref.whole cc0_stg2_0
abbrev workM : Memref sig .tc .vmem S1024x1024 .bf16 := Memref.whole cc0_scratch0

/-- Contents of the work buffer. -/
abbrev WB (F : FTy → Type) : Type := (cc0_scratch0 : Ref sig .tc).ty.Contents (Elt F)
/-- Contents of the result's staging buffer. -/
abbrev OB (F : FTy → Type) : Type := (cc0_stg2_0 : Ref sig .tc).ty.Contents (Elt F)

theorem inb_rows {lo n : ℕ} (h : lo + n ≤ 1024) : ∀ a, (![lo, 0] : Fin 2 → ℕ) a + (Sn n).size a ≤ S1024x1024.size a :=
  Rect.inb₂ h (show 0 + 1024 ≤ 1024 from le_rfl)

/-- The rectangle of `n` rows from `lo`. -/
abbrev rowR (lo n : ℕ) (h : lo + n ≤ 1024) : Rect S1024x1024 := Rect.unit (s := S1024x1024) ![lo, 0] (Sn n).size (inb_rows h)

/-- Those rows of the work buffer, as a memref. -/
abbrev rowM (lo n : ℕ) (h : lo + n ≤ 1024) : Memref sig .tc .vmem (Sn n) .bf16 := workM.slice (rowR lo n h) (fun _ => rfl)

/-- The source of copy `i`. -/
def srcM (i : Fin 28) (c : Dev nD) : Memref sig .tc .vmem (Sn (len i)) .bf16 := rowM (sLo i c) (len i) (sLo_inb i c)

theorem slice_eq {off : Fin 2 → ℕ} {lo n : ℕ} (h : lo + n ≤ 1024) (ho : off = ![lo, 0])
    (inb : ∀ a, off a + (Sn n).size a ≤ S1024x1024.size a) (hs) :
    workM.slice (Rect.unit (s := S1024x1024) off (Sn n).size inb) hs = rowM lo n h := by subst ho; rfl

theorem src_eq (i : Fin 28) (c : Dev nD) {off : Fin 2 → ℕ} (ho : off = ![sLo i c, 0])
    (inb : ∀ a, off a + (Sn (len i)).size a ≤ S1024x1024.size a) (hs) :
    workM.slice (Rect.unit (s := S1024x1024) off (Sn (len i)).size inb) hs = srcM i c := slice_eq _ ho inb hs

theorem rect_eq {off : Fin 2 → ℕ} {lo n : ℕ} (h : lo + n ≤ 1024) (ho : off = ![lo, 0])
    (inb : ∀ a, off a + (Sn n).size a ≤ S1024x1024.size a) :
    Rect.unit (s := S1024x1024) off (Sn n).size inb = rowR lo n h := by subst ho; rfl

/-! ## Rows -/

/-- The elements of rows `lo` to `lo + n`. -/
def rows (lo n : ℕ) : Finset S1024x1024.Idx := Finset.univ.filter fun i => lo ≤ (i 0).val ∧ (i 0).val < lo + n

theorem mem_rows {lo n : ℕ} {i : S1024x1024.Idx} : i ∈ rows lo n ↔ lo ≤ (i 0).val ∧ (i 0).val < lo + n := by
  simp [rows]

theorem rowR_set {lo n : ℕ} (h : lo + n ≤ 1024) : (rowR lo n h).set = rows lo n := by
  ext i
  rw [Rect.mem_set_unit, mem_rows, Fin.forall_fin_two]
  have := (i 1).isLt
  constructor
  · exact fun h => h.1
  · exact fun h => ⟨h, Nat.zero_le _, by simpa using this⟩

theorem rowM_set {lo n : ℕ} (h : lo + n ≤ 1024) : (rowM lo n h).view.set = rows lo n :=
  (View.set_slice_whole cc0_scratch0 (rowR lo n h)).trans (rowR_set h)

theorem oM_set {lo n : ℕ} (h : lo + n ≤ 1024) : (oM.access (rowR lo n h)).set = rows lo n :=
  (View.set_slice_whole cc0_stg2_0 (rowR lo n h)).trans (rowR_set h)

theorem rows_all : rows 0 1024 = Finset.univ := by
  ext i; have := (i 0).isLt; simp only [mem_rows, Finset.mem_univ, iff_true]; exact ⟨Nat.zero_le _, by simpa using this⟩

theorem rows_union (lo n m : ℕ) : rows lo (n + m) = rows lo n ∪ rows (lo + n) m := by
  ext i; simp only [mem_rows, Finset.mem_union]; omega

theorem rows_disjoint {lo n lo' n' : ℕ} (h : lo + n ≤ lo' ∨ lo' + n' ≤ lo) : Disjoint (rows lo n) (rows lo' n') := by
  rw [Finset.disjoint_left]; intro i; simp only [mem_rows]; omega

theorem rows_subset {lo n lo' n' : ℕ} (h : lo' ≤ lo) (h' : lo + n ≤ lo' + n') : rows lo n ⊆ rows lo' n' := by
  intro i; simp only [mem_rows]; omega

/-- Device `d`'s ownership of rows of its work buffer. -/
def wk (d : Dev nD) (lo n : ℕ) (q : PosShare TreeShare) (f : WB F) : sProp 𝕄 :=
  ((d : Thread nD τ).loc cc0_scratch0) ↦[rows lo n]{q} f

instance wk_storable (d : Dev nD) (lo n : ℕ) (q : PosShare TreeShare) (f : WB F) :
    BI.Storable (upEmb : UEmb _ 𝕄) (wk d lo n q f) := by unfold wk; infer_instance

theorem wk_congr {d : Dev nD} {lo n : ℕ} {q : PosShare TreeShare} {f g : WB F} (h : ∀ i ∈ rows lo n, f i = g i) :
    (wk d lo n q f : sProp 𝕄) = wk d lo n q g := pointsTo_congr h

theorem wk_add (d : Dev nD) (lo n m : ℕ) (q : PosShare TreeShare) (f : WB F) :
    (wk d lo (n + m) q f : sProp 𝕄) = iprop(wk d lo n q f ∗ wk d (lo + n) m q f) := by
  unfold wk; rw [rows_union]
  have h := pointsTo_union (nD := nD) (τ := τ) (sig := sig) (Ix := Unit) (Val := Elt F) (Name := ℕ) (U := UU) (Lvl := ℕ) (ℓ := ((d : Thread nD τ).loc cc0_scratch0)) (q := q) (f := f) (rows_disjoint (lo := lo) (n := n) (lo' := lo + n) (n' := m) (.inl le_rfl))
  exact BI.equiv_iff.mp ⟨h.1, h.2⟩

theorem sep_comm_eq (P Q : sProp 𝕄) : iprop(P ∗ Q) = iprop(Q ∗ P) := BI.equiv_iff.mp ⟨(Laws.sep_comm (P := P) (Q := Q)).1, (Laws.sep_comm (P := P) (Q := Q)).2⟩
theorem sep_assoc_eq (P Q R : sProp 𝕄) : iprop((P ∗ Q) ∗ R) = iprop(P ∗ Q ∗ R) :=
  BI.equiv_iff.mp ⟨(Laws.sep_assoc (P := P) (Q := Q) (R := R)).1, (Laws.sep_assoc (P := P) (Q := Q) (R := R)).2⟩
theorem sep_left_comm_eq (P Q R : sProp 𝕄) : iprop(P ∗ Q ∗ R) = iprop(Q ∗ P ∗ R) := by
  rw [← sep_assoc_eq, sep_comm_eq P Q, sep_assoc_eq]

theorem wk_halves (d : Dev nD) {b n k o : ℕ} (h : Halves b n k o) (q : PosShare TreeShare) (f : WB F) :
    (wk d b (2 * n) q f : sProp 𝕄) = iprop(wk d k n q f ∗ wk d o n q f) := by
  rw [two_mul, wk_add]
  rcases h with ⟨rfl, rfl⟩ | ⟨rfl, rfl⟩
  · rfl
  · exact sep_comm_eq _ _

theorem wk_quarters (d : Dev nD) {b n k o o' o'' : ℕ} (h : Quarters b n k o o' o'') (q : PosShare TreeShare) (f : WB F) :
    (wk d b (4 * n) q f : sProp 𝕄) = iprop(wk d k n q f ∗ wk d o n q f ∗ wk d o' n q f ∗ wk d o'' n q f) := by
  have e : (wk d b (4 * n) q f : sProp 𝕄)
      = iprop(wk d b n q f ∗ wk d (b + n) n q f ∗ wk d (b + 2 * n) n q f ∗ wk d (b + 3 * n) n q f) := by
    rw [show 4 * n = (n + n) + (n + n) by omega, wk_add, wk_add, wk_add, show b + (n + n) = b + 2 * n by omega,
      show b + 2 * n + n = b + 3 * n by omega, sep_assoc_eq]
  rw [e]
  rcases h with ⟨rfl, rfl, rfl, rfl⟩ | ⟨rfl, rfl, rfl, rfl⟩ | ⟨rfl, rfl, rfl, rfl⟩ | ⟨rfl, rfl, rfl, rfl⟩ <;>
    simp only [sep_comm_eq, sep_left_comm_eq]

end Cert.Reduce

end
-- ==== Proof.Values.lean ====
/-
What the buffers hold: the contents of the work buffer at each stage of the reduction, as functions of the
devices' products, and what the kernel's loads, sums and stores do to them.
-/
module

public import proofs.«01_k».proof.Proof.Rows
public import Idealize.ShloMosaic.Lib.Pipeline.Value

@[expose] public section

noncomputable section

namespace Cert.Reduce

open Cert.KernelIdeal Cert.KernelIdeal.Gen
open Idealize.ShloMosaic

variable {F : FTy → Type} [FloatOps F]

/-! ## The stages -/

/-- The sum of two buffers. -/
def add2 (f g : WB F) : WB F := (addf (f : FVec F S1024x1024 .bf16) g : FVec F S1024x1024 .bf16)
/-- A device's contents plus those of its three partners `k`, `k'`, `k''`, in that order. -/
def add4 (k k' k'' : Fin 7) (f : Dev nD → WB F) (d : Dev nD) : WB F :=
  add2 (add2 (add2 (f d) (f (par k d))) (f (par k' d))) (f (par k'' d))
/-- A device's contents plus those of its first partner. -/
def addX (f : Dev nD → WB F) (d : Dev nD) : WB F := add2 (f d) (f (par 0 d))

variable (P : Dev nD → WB F)

def A1 : Dev nD → WB F := addX P
def A2 : Dev nD → WB F := add4 1 2 3 (A1 P)
def A3 : Dev nD → WB F := add4 4 5 6 (A2 P)
def B1 : Dev nD → WB F := add4 1 2 3 P
def B2 : Dev nD → WB F := add4 4 5 6 (B1 P)
def B3 : Dev nD → WB F := addX (B2 P)

/-- The device at given coordinates. -/
def devOf (x q q' : ℕ) : Dev nD :=
  ⟨(8 * (q / 2 % 2 + 2 * (q' / 2 % 2)) + 2 * (q % 2 + 2 * (q' % 2)) + (x + q) % 2) % 32, Nat.mod_lt _ (by decide)⟩
/-- The device that ends with row `r` of the upper half, and of the lower half. -/
def ownA (r : ℕ) : Dev nD := devOf (r / 256 % 2) (r / 64 % 4) (r / 16 % 4)
def ownB (r : ℕ) : Dev nD := devOf (r / 16 % 2) (r / 128 % 4) (r / 32 % 4)

/-- What every device's work buffer holds at the end. -/
def fin : WB F := fun i : S1024x1024.Idx => if (i 0).val < 512 then A3 P (ownA (i 0).val) i else B3 P (ownB (i 0).val) i

theorem ownA_a3 : ∀ (c : Dev nD) (j : Fin 16), ownA (a3 c + j.val) = c ∧ a3 c + j.val < 512 := by decide +kernel
theorem ownB_b3 : ∀ (c : Dev nD) (j : Fin 16), ownB (b3 c + j.val) = c ∧ 512 ≤ b3 c + j.val := by decide +kernel

theorem fin_a (c : Dev nD) : ∀ i ∈ rows (a3 c) 16, A3 P c i = fin P i := by
  intro i hi
  rw [mem_rows] at hi
  have h := ownA_a3 c ⟨(i 0).val - a3 c, by omega⟩
  have e : a3 c + ((i 0).val - a3 c) = (i 0).val := by omega
  simp only [e] at h
  unfold fin; rw [if_pos h.2, h.1]

theorem fin_b (c : Dev nD) : ∀ i ∈ rows (b3 c) 16, B3 P c i = fin P i := by
  intro i hi
  rw [mem_rows] at hi
  have h := ownB_b3 c ⟨(i 0).val - b3 c, by omega⟩
  have e : b3 c + ((i 0).val - b3 c) = (i 0).val := by omega
  simp only [e] at h
  unfold fin; rw [if_neg (by omega), h.1]

/-- What copy `i` of device `d` carries: its source rows of these contents. -/
def val (i : Fin 28) (d : Dev nD) : WB F :=
  if i.val < 4 then P d else if i.val < 7 then A1 P d else if i.val < 10 then B1 P d else if i.val < 13 then A2 P d
  else if i.val < 14 then B2 P d else fin P

/-! ## Reading and writing through rows -/

/-- Rows `lo` to `lo + n` of contents. -/
abbrev rd (lo n : ℕ) (h : lo + n ≤ 1024) (f : WB F) : (Sn n).Idx → Elt F .bf16 := (rowM lo n h).view.read (Elt F) f

theorem write_rd {lo n : ℕ} (h : lo + n ≤ 1024) (f g : WB F) :
    ∀ i ∈ rows lo n, (rowM lo n h).view.write (Elt F) f (rd lo n h g) Finset.univ i = g i := by
  intro i hi
  rw [View.write_read_eq_piecewise, View.setOn_univ, rowM_set]
  exact Finset.piecewise_eq_of_mem _ _ _ hi

theorem pay4_rd {lo : ℕ} (h : lo + 256 ≤ 1024) (f g : WB F) :
    k0_pay4 (rd lo 256 h f) (rd lo 256 h g) = rd lo 256 h (add2 f g) := by
  unfold k0_pay4; exact shapeCast_self _ _
theorem pay5_rd {lo : ℕ} (h : lo + 128 ≤ 1024) (f g g' g'' : WB F) :
    k0_pay5 (rd lo 128 h f) (rd lo 128 h g) (rd lo 128 h g') (rd lo 128 h g'') = rd lo 128 h (add2 (add2 (add2 f g) g') g'') := by
  unfold k0_pay5; exact shapeCast_self _ _
theorem pay6_rd {lo : ℕ} (h : lo + 64 ≤ 1024) (f g g' g'' : WB F) :
    k0_pay6 (rd lo 64 h f) (rd lo 64 h g) (rd lo 64 h g') (rd lo 64 h g'') = rd lo 64 h (add2 (add2 (add2 f g) g') g'') := by
  unfold k0_pay6; exact shapeCast_self _ _
theorem pay7_rd {lo : ℕ} (h : lo + 32 ≤ 1024) (f g g' g'' : WB F) :
    k0_pay8 (k0_pay7 (rd lo 32 h f) (rd lo 32 h g) (rd lo 32 h g') (rd lo 32 h g'')) = rd lo 32 h (add2 (add2 (add2 f g) g') g'') := by
  unfold k0_pay8 k0_pay7; exact shapeCast_self _ _
theorem pay9_rd {lo : ℕ} (h : lo + 16 ≤ 1024) (f g g' g'' : WB F) :
    k0_pay9 (rd lo 16 h f) (rd lo 16 h g) (rd lo 16 h g') (rd lo 16 h g'') = rd lo 16 h (add2 (add2 (add2 f g) g') g'') := by
  unfold k0_pay9; exact shapeCast_self _ _
theorem pay10_rd {lo : ℕ} (h : lo + 16 ≤ 1024) (f g : WB F) :
    k0_pay10 (rd lo 16 h f) (rd lo 16 h g) = rd lo 16 h (add2 f g) := by
  unfold k0_pay10; exact shapeCast_self _ _

/-! ## The result -/

/-- Contents of the work buffer as contents of the result. -/
def cv (f : WB F) : OB F := (extf .f32 (f : FVec F S1024x1024 .bf16) bitsLt_bf16_f32 : FVec F S1024x1024 .f32)

/-- A converted vector of rows. -/
def ex {n : ℕ} (v : (Sn n).Idx → Elt F .bf16) : (Sn n).Idx → Elt F .f32 := (extf .f32 (v : FVec F (Sn n) .bf16) bitsLt_bf16_f32 : FVec F (Sn n) .f32)

/-- The rows of the ranges `D` of the result are done. -/
def Done (D : List (ℕ × ℕ)) (g : OB F) : Prop := ∀ i : S1024x1024.Idx, ∀ p ∈ D, p.1 ≤ (i 0).val → (i 0).val < p.1 + p.2 → g i = cv (fin P) i

theorem done_nil (g : OB F) : Done P [] g := fun _ _ hp => absurd hp (List.not_mem_nil)

theorem done_cons {D : List (ℕ × ℕ)} {g : OB F} (hD : Done P D g) {lo n : ℕ} (h : lo + n ≤ 1024) {f : WB F}
    (hf : ∀ i ∈ rows lo n, f i = fin P i) :
    Done P ((lo, n) :: D) ((oM.access (rowR lo n h)).write (Elt F) g (ex (rd lo n h f)) Finset.univ) := by
  intro i p hp h1 h2
  have e : (ex (rd lo n h f) : (Sn n).Idx → Elt F .f32) = (oM.access (rowR lo n h)).read (Elt F) (cv f) := rfl
  rw [e, View.write_read_eq_piecewise, View.setOn_univ, oM_set]
  by_cases hi : i ∈ rows lo n
  · rw [Finset.piecewise_eq_of_mem _ _ _ hi]
    exact congrArg (fun v : Elt F .bf16 => cv (fun _ => v) i) (hf i hi)
  · rw [Finset.piecewise_eq_of_notMem _ _ _ hi]
    rcases List.mem_cons.mp hp with rfl | hp
    · exact absurd (mem_rows.mpr ⟨h1, h2⟩) hi
    · exact hD i p hp h1 h2

theorem mem_halves {b n k o r : ℕ} (h : Halves b n k o) (h1 : b ≤ r) (h2 : r < b + 2 * n) :
    (k ≤ r ∧ r < k + n) ∨ (o ≤ r ∧ r < o + n) := by rcases h with ⟨rfl, rfl⟩ | ⟨rfl, rfl⟩ <;> omega
theorem mem_quarters {b n k o o' o'' r : ℕ} (h : Quarters b n k o o' o'') (h1 : b ≤ r) (h2 : r < b + 4 * n) :
    (k ≤ r ∧ r < k + n) ∨ (o ≤ r ∧ r < o + n) ∨ (o' ≤ r ∧ r < o' + n) ∨ (o'' ≤ r ∧ r < o'' + n) := by
  rcases h with ⟨rfl, rfl, rfl, rfl⟩ | ⟨rfl, rfl, rfl, rfl⟩ | ⟨rfl, rfl, rfl, rfl⟩ | ⟨rfl, rfl, rfl, rfl⟩ <;> omega

/-- The ranges the kernel converts, last first. -/
def conv (c : Dev nD) : List (ℕ × ℕ) :=
  [(oLo 3 c, 128), (oLo 2 c, 128), (oLo 1 c, 128), (oLo 0 c, 256), (oLo 9 c, 32), (oLo 8 c, 32), (oLo 7 c, 32), (oLo 6 c, 64),
    (oLo 5 c, 64), (oLo 4 c, 64), (oLo 13 c, 16), (oLo 12 c, 16), (oLo 11 c, 16), (oLo 10 c, 16), (b3 c, 16), (a3 c, 16)]

/-- They are all the rows. -/
theorem done_all {c : Dev nD} {g : OB F} (h : Done P (conv c) g) : g = cv (fin P) := by
  funext i
  have hi : (i 0).val < 1024 := (i 0).isLt
  have key : ∃ p ∈ conv c, p.1 ≤ (i 0).val ∧ (i 0).val < p.1 + p.2 := by
    unfold conv
    simp only [List.mem_cons, List.not_mem_nil, or_false, exists_eq_or_imp, exists_eq_left]
    by_cases h5 : (i 0).val < 512
    · rcases mem_halves (halves_a c) (Nat.zero_le _) h5 with ⟨h1, h2⟩ | h'
      · rcases mem_quarters (quarters_a2 c) h1 h2 with ⟨h1, h2⟩ | h' | h' | h'
        · rcases mem_quarters (quarters_a3 c) h1 h2 with h' | h' | h' | h' <;> simp only [h', true_and, and_self, true_or, or_true]
        all_goals simp only [h', true_and, and_self, true_or, or_true]
      · simp only [h', true_and, and_self, true_or, or_true]
    · rcases mem_quarters (quarters_b1 c) (r := (i 0).val) (by omega) (by omega) with ⟨h1, h2⟩ | h' | h' | h'
      · rcases mem_quarters (quarters_b2 c) h1 h2 with ⟨h1, h2⟩ | h' | h' | h'
        · rcases mem_halves (halves_b c) h1 h2 with h' | h' <;> simp only [h', true_and, and_self, true_or, or_true]
        all_goals simp only [h', true_and, and_self, true_or, or_true]
      all_goals simp only [h', true_and, and_self, true_or, or_true]
  obtain ⟨p, hp, h1, h2⟩ := key
  exact h i p hp h1 h2

end Cert.Reduce

end
-- ==== Proof.Schedule.lean ====
/-
The protocol: the cells (a device's entry barrier, its 28 send and 28 receive semaphores), what each duty
pays, what a device owes at each point and the levels that order the waits.
-/
module

public import proofs.«01_k».proof.Proof.Values

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Landing buffers -/

/-- Where copy `i` of the way in lands. -/
def rM : (i : Fin 28) → Memref sig .tc .vmem (Sn (len i)) .bf16
  | 0 => (Memref.whole cc0_scratch1 : Memref sig .tc .vmem S256x1024 .bf16)
  | 1 => (Memref.whole cc0_scratch8 : Memref sig .tc .vmem S128x1024 .bf16)
  | 2 => (Memref.whole cc0_scratch9 : Memref sig .tc .vmem S128x1024 .bf16)
  | 3 => (Memref.whole cc0_scratch10 : Memref sig .tc .vmem S128x1024 .bf16)
  | 4 => (Memref.whole cc0_scratch2 : Memref sig .tc .vmem S64x1024 .bf16)
  | 5 => (Memref.whole cc0_scratch3 : Memref sig .tc .vmem S64x1024 .bf16)
  | 6 => (Memref.whole cc0_scratch4 : Memref sig .tc .vmem S64x1024 .bf16)
  | 7 => (Memref.whole cc0_scratch11 : Memref sig .tc .vmem S32x1024 .bf16)
  | 8 => (Memref.whole cc0_scratch12 : Memref sig .tc .vmem S32x1024 .bf16)
  | 9 => (Memref.whole cc0_scratch13 : Memref sig .tc .vmem S32x1024 .bf16)
  | 10 => (Memref.whole cc0_scratch5 : Memref sig .tc .vmem S16x1024 .bf16)
  | 11 => (Memref.whole cc0_scratch6 : Memref sig .tc .vmem S16x1024 .bf16)
  | 12 => (Memref.whole cc0_scratch7 : Memref sig .tc .vmem S16x1024 .bf16)
  | 13 => (Memref.whole cc0_scratch14 : Memref sig .tc .vmem S16x1024 .bf16)
  | i => srcM i 0

/-! ## Cells -/

abbrev barS : Sem sig := (SemArray.scalar (sig.barrier 0 rfl) : Sems sig S_).sem

/-- DMA semaphore number `k` after the three staging semaphores: the sends, then the receives. -/
def dm (k : Fin 56) : DmaSem sig := ⟨3 + k.val, by have := k.isLt; show 3 + k.val < 59; omega⟩
def sIx (i : Fin 28) : Fin 56 := ⟨i.val, by omega⟩
def rIx (i : Fin 28) : Fin 56 := ⟨28 + i.val, by omega⟩
abbrev sd (i : Fin 28) : DmaSem sig := dm (sIx i)
abbrev rv (i : Fin 28) : DmaSem sig := dm (rIx i)

abbrev bC (c : Dev nD) : GSem nD τ sig := ((c : Thread nD τ), .reg barS)
abbrev sC (c : Dev nD) (i : Fin 28) : GSem nD τ sig := ((c : Thread nD τ), .dma (sd i))
abbrev rC (c : Dev nD) (i : Fin 28) : GSem nD τ sig := ((c : Thread nD τ), .dma (rv i))

/-- The credit of copy `i`. -/
def Nn (i : Fin 28) : ℕ := (srcM i 0).view.dmaCredit
theorem Nn_pos (i : Fin 28) : 0 < Nn i := View.dmaCredit_pos _ (by
  show 0 < (Sn (len i)).numel
  have := len_pos i
  rw [Shape.numel]; simp [Fin.prod_univ_two]; omega)
theorem src_credit (i : Fin 28) (c : Dev nD) : (srcM i c).view.dmaCredit = Nn i := rfl
theorem rM_credit : ∀ i : Fin 28, (rM i).view.dmaCredit = Nn i := by intro i; fin_cases i <;> rfl

/-! ## Payloads -/

/-- The share of its source a copy of the way back holds while it is in flight. -/
def qs : Fin 28 → PosShare TreeShare := fun i =>
  if i = 17 ∨ i = 24 then fullShare.right
  else if pk i = 1 ∨ pk i = 4 then fullShare.left.right else if pk i = 2 ∨ pk i = 5 then fullShare.right.left else fullShare.right.right

/-- The landing buffer of copy `i` on device `d`, at any contents. -/
def bufAt (i : Fin 28) (d : Dev nD) : sProp 𝕄 :=
  iprop(∃ f : Buf (Elt F) ((rM i).view.loc (d : Thread nD τ)), (rM i).view.loc (d : Thread nD τ) ↦[(rM i).view.set]{fullShare} f)

/-- The copies of the way in that go to partner `k`. -/
def bufs (k : Fin 7) : Finset (Fin 28) := Finset.univ.filter fun i => i.val < 14 ∧ pk i = k

/-- What partner `k` of `c` hands it at entry: its landing buffers `c` writes. -/
def barPay (k : Fin 7) (c : Dev nD) : sProp 𝕄 := bigSep (bufs k) fun i => bufAt i (par k c)

variable (P : Dev nD → WB F)

/-- What a landing of the way in hands over: the landing buffer with the partner's rows, and those rows of the
    partner's work buffer, which the way back will write. -/
def rsPay (i : Fin 28) (c : Dev nD) : sProp 𝕄 :=
  iprop((∃ fd : Buf (Elt F) ((rM i).view.loc (c : Thread nD τ)), (rM i).view.loc (c : Thread nD τ) ↦[(rM i).view.set]{fullShare}
      (rM i).view.write (Elt F) fd (rd (kLo i c) (len i) (kLo_inb i c) (val P i (par (pk i) c))) Finset.univ)
    ∗ wk (par (pk i) c) (kLo i c) (len i) fullShare (val P i (par (pk i) c)))

/-- A landing of the way back: the partner's range, final. -/
def agPay (i : Fin 28) (c : Dev nD) : sProp 𝕄 := wk c (oLo i c) (len i) fullShare (fin P)

def recvPay (i : Fin 28) (c : Dev nD) : sProp 𝕄 := if i.val < 14 then rsPay P i c else agPay P i c
def sendPay (i : Fin 28) (c : Dev nD) : sProp 𝕄 := if i.val < 14 then iprop(emp) else wk c (kLo i c) (len i) (qs i) (fin P)

/-- What DMA semaphore `q` of device `c` pays. -/
def dmaPay (q : DmaSem sig) (c : Dev nD) : sProp 𝕄 :=
  if h : 31 ≤ q.val then recvPay P ⟨q.val - 31, by have : q.val < 59 := q.isLt; omega⟩ c
  else if h' : 3 ≤ q.val then sendPay P ⟨q.val - 3, by omega⟩ c else iprop(emp)

def dmaAmt (q : DmaSem sig) : ℕ :=
  if h : 31 ≤ q.val then Nn ⟨q.val - 31, by have : q.val < 59 := q.isLt; omega⟩
  else if h' : 3 ≤ q.val then Nn ⟨q.val - 3, by omega⟩ else 1

theorem dmaPay_rv (i : Fin 28) (c : Dev nD) : dmaPay P (rv i) c = recvPay P i c := by
  have e : (rv i).val = 31 + i.val := by show 3 + (28 + i.val) = _; omega
  unfold dmaPay; rw [dif_pos (by omega)]
  exact congrArg (fun j => recvPay P j c) (Fin.ext (by show (rv i).val - 31 = i.val; omega))
theorem dmaPay_sd (i : Fin 28) (c : Dev nD) : dmaPay P (sd i) c = sendPay P i c := by
  have e : (sd i).val = 3 + i.val := rfl
  unfold dmaPay; rw [dif_neg (by omega), dif_pos (by omega)]
  exact congrArg (fun j => sendPay P j c) (Fin.ext (by show (sd i).val - 3 = i.val; omega))
theorem dmaAmt_rv (i : Fin 28) : dmaAmt (rv i) = Nn i := by
  have e : (rv i).val = 31 + i.val := by show 3 + (28 + i.val) = _; omega
  unfold dmaAmt; rw [dif_pos (by omega)]
  exact congrArg Nn (Fin.ext (by show (rv i).val - 31 = i.val; omega))
theorem dmaAmt_sd (i : Fin 28) : dmaAmt (sd i) = Nn i := by
  have e : (sd i).val = 3 + i.val := rfl
  unfold dmaAmt; rw [dif_neg (by omega), dif_pos (by omega)]
  exact congrArg Nn (Fin.ext (by show (sd i).val - 3 = i.val; omega))
theorem dmaAmt_pos (q : DmaSem sig) : 0 < dmaAmt q := by
  unfold dmaAmt; split
  · exact Nn_pos _
  · split
    · exact Nn_pos _
    · exact Nat.one_pos

/-! ## The schedule -/

/-- One round: a barrier cell has the seven duties of one unit each, a send or receive cell the duty `0`. -/
def sched : Rounds.Schedule (GSem nD τ sig) (Fin 7) 𝕄 where
  duties g r := if r = 0 ∧ g.1.2 = .tc then (match g.2 with | .reg _ => Finset.univ | .dma q => if 3 ≤ q.val then {0} else ∅) else ∅
  unitless _ := False
  amount g _ _ := match g.2 with | .reg _ => 1 | .dma q => dmaAmt q
  payload g _ d := match g.2 with | .reg _ => barPay d g.1.1 | .dma q => dmaPay P q g.1.1
  amount_pos g _ _ _ := by
    cases g.2 with
    | reg _ => exact Nat.one_pos
    | dma q => exact dmaAmt_pos q

instance bufAt_storable (i : Fin 28) (d : Dev nD) : BI.Storable (upEmb : UEmb _ 𝕄) (bufAt (F := F) i d) := by unfold bufAt; infer_instance
instance barPay_storable (k : Fin 7) (d : Dev nD) : BI.Storable (upEmb : UEmb _ 𝕄) (barPay (F := F) k d) := by unfold barPay; infer_instance
instance dmaPay_storable (q : DmaSem sig) (d : Dev nD) : BI.Storable (upEmb : UEmb _ 𝕄) (dmaPay P q d) := by
  unfold dmaPay recvPay sendPay rsPay agPay
  (repeat' split) <;> infer_instance
instance sched_storable (g : GSem nD τ sig) (r : ℕ) (d : Fin 7) : BI.Storable (upEmb : UEmb _ 𝕄) ((sched P).payload g r d) := by
  show BI.Storable upEmb (match g.2 with | .reg _ => barPay d g.1.1 | .dma q => dmaPay P q g.1.1)
  split <;> infer_instance

section Sched
variable (c : Dev nD) (i : Fin 28) (k : Fin 7)

theorem duties_bar : (sched P).duties (bC c) 0 = Finset.univ := by dsimp only [sched]; exact if_pos ⟨rfl, rfl⟩
theorem duties_dma (k : Fin 56) : (sched P).duties ((c : Thread nD τ), .dma (dm k)) 0 = {0} := by
  dsimp only [sched]; rw [if_pos ⟨rfl, rfl⟩]; exact if_pos (show 3 ≤ 3 + k.val by omega)
theorem duties_later (g : GSem nD τ sig) : ∀ r, 1 ≤ r → (sched P).duties g r = ∅ :=
  fun r hr => by dsimp only [sched]; rw [if_neg fun h => by omega]
theorem amount_bar : (sched P).amount (bC c) 0 k = 1 := rfl
theorem amount_snd : (sched P).amount (sC c i) 0 k = Nn i := dmaAmt_sd i
theorem amount_rcv : (sched P).amount (rC c i) 0 k = Nn i := dmaAmt_rv i
theorem payload_bar : (sched P).payload (bC c) 0 k = barPay k c := rfl
theorem payload_snd : (sched P).payload (sC c i) 0 k = sendPay P i c := dmaPay_sd P i c
theorem payload_rcv : (sched P).payload (rC c i) 0 k = recvPay P i c := dmaPay_rv P i c

theorem expect_bar : (sched P).expect (bC c) 0 = 7 := by
  unfold Schedule.expect Schedule.amountOf
  rw [duties_bar, Finset.sum_congr rfl fun d _ => amount_bar P c d, Finset.sum_const, Finset.card_univ, Fintype.card_fin, smul_eq_mul]
theorem expect_snd : (sched P).expect (sC c i) 0 = Nn i := by
  unfold Schedule.expect Schedule.amountOf; rw [duties_dma, Finset.sum_singleton, amount_snd]
theorem expect_rcv : (sched P).expect (rC c i) 0 = Nn i := by
  unfold Schedule.expect Schedule.amountOf; rw [duties_dma, Finset.sum_singleton, amount_rcv]

theorem rest_bar : bigSep ((sched P).duties (bC c) 0 \ ∅) (fun d => (sched P).payload (bC c) 0 d) = bigSep Finset.univ fun k => barPay k c := by
  rw [Finset.sdiff_empty, duties_bar]; rfl
theorem rest_snd : bigSep ((sched P).duties (sC c i) 0 \ ∅) (fun d => (sched P).payload (sC c i) 0 d) = sendPay P i c := by
  rw [Finset.sdiff_empty, duties_dma, bigSep_singleton, payload_snd]
theorem rest_rcv : bigSep ((sched P).duties (rC c i) 0 \ ∅) (fun d => (sched P).payload (rC c i) 0 d) = recvPay P i c := by
  rw [Finset.sdiff_empty, duties_dma, bigSep_singleton, payload_rcv]

end Sched

/-! ## What a device owes; the levels -/

/-- The copies from number `n` on. -/
def fromN (n : ℕ) : Finset (Fin 28) := Finset.univ.filter fun i => n ≤ i.val
theorem fromN_succ (i : Fin 28) : fromN i.val = insert i (fromN (i.val + 1)) := by
  ext j; simp only [fromN, Finset.mem_filter, Finset.mem_univ, true_and, Finset.mem_insert, Fin.ext_iff]; omega
theorem not_mem_fromN (i : Fin 28) : i ∉ fromN (i.val + 1) := by simp [fromN]

/-- The receive credits of the copies from number `n` on. -/
def owedFrom (c : Dev nD) (n : ℕ) : CellTallies nD τ sig Unit := ∑ i ∈ fromN n, tallyAt (rC (par (pk i) c) i) () (Nn i)
theorem owedFrom_succ (c : Dev nD) (i : Fin 28) :
    owedFrom c i.val = owedFrom c (i.val + 1) + tallyAt (rC (par (pk i) c) i) () (Nn i) := by
  unfold owedFrom; rw [fromN_succ, Finset.sum_insert (not_mem_fromN i), add_comm]
theorem owedFrom_end (c : Dev nD) : owedFrom c 28 = 0 := by
  unfold owedFrom; rw [show fromN 28 = ∅ by decide, Finset.sum_empty]

/-- The partners from number `n` on. -/
def fromK (n : ℕ) : Finset (Fin 7) := Finset.univ.filter fun i => n ≤ i.val
theorem fromK_succ (i : Fin 7) : fromK i.val = insert i (fromK (i.val + 1)) := by
  ext j; simp only [fromK, Finset.mem_filter, Finset.mem_univ, true_and, Finset.mem_insert, Fin.ext_iff]; omega
theorem not_mem_fromK (i : Fin 7) : i ∉ fromK (i.val + 1) := by simp [fromK]

/-- All receive credits and the entry signals to the partners from number `n` on. -/
def owedB (c : Dev nD) (n : ℕ) : CellTallies nD τ sig Unit := owedFrom c 0 + ∑ k ∈ fromK n, tallyAt (bC (par k c)) () 1
theorem owedB_succ (c : Dev nD) (k : Fin 7) : owedB c k.val = owedB c (k.val + 1) + tallyAt (bC (par k c)) () 1 := by
  unfold owedB; rw [fromK_succ, Finset.sum_insert (not_mem_fromK k), add_assoc, add_comm (tallyAt _ _ _)]
theorem owedB_end (c : Dev nD) : owedB c 7 = owedFrom c 0 := by
  unfold owedB; rw [show fromK 7 = ∅ by decide, Finset.sum_empty, add_zero]

def L (g : GSem nD τ sig) : Finset Unit := if g.1.2 = .tc then {()} else ∅
/-- Staging and send cells at 0, barriers at 1, the receive cells above them in the order of the copies. -/
def lv (g : GSem nD τ sig) (_ : Unit) : ℕ := match g.2 with | .reg _ => 1 | .dma q => if 31 ≤ q.val then q.val - 29 else 0

theorem L_of_ne (g : GSem nD τ sig) (h : g.1.2 ≠ .tc) : L g = ∅ := if_neg h
theorem L_tc (c : Dev nD) (sm : SemLoc sig) : L ((c : Thread nD τ), sm) = {()} := if_pos rfl
theorem lv_rC (c : Dev nD) (i : Fin 28) : lv (rC c i) () = i.val + 2 := by
  show (if 31 ≤ 3 + (28 + i.val) then 3 + (28 + i.val) - 29 else 0) = _
  rw [if_pos (by omega)]; omega
theorem lv_sC (c : Dev nD) (i : Fin 28) : lv (sC c i) () = 0 := by
  show (if 31 ≤ 3 + i.val then 3 + i.val - 29 else 0) = _
  rw [if_neg (by omega)]
theorem lv_bC (c : Dev nD) : lv (bC c) () = 1 := rfl

theorem sum_tally_pos {ι : Type} [DecidableEq ι] {S : Finset ι} {f : ι → GSem nD τ sig} {a : ι → ℕ} {g : GSem nD τ sig} {u : Unit}
    (h : 0 < (∑ i ∈ S, tallyAt (f i) () (a i) : CellTallies nD τ sig Unit) g u) : ∃ i ∈ S, g = f i := by
  induction S using Finset.induction_on with
  | empty => exact absurd h (Nat.lt_irrefl 0)
  | insert i S hi ih =>
    rw [Finset.sum_insert hi, Pi.add_apply, Finsupp.add_apply, tallyAt_apply] at h
    by_cases hg : g = f i ∧ u = ()
    · exact ⟨i, Finset.mem_insert_self _ _, hg.1⟩
    · rw [if_neg hg, Nat.zero_add] at h
      obtain ⟨j, hj, e⟩ := ih h
      exact ⟨j, Finset.mem_insert_of_mem hj, e⟩

theorem owedFrom_pos {c : Dev nD} {n : ℕ} {g : GSem nD τ sig} {u : Unit} (h : 0 < owedFrom c n g u) :
    ∃ i : Fin 28, n ≤ i.val ∧ g = rC (par (pk i) c) i := by
  obtain ⟨i, hi, e⟩ := sum_tally_pos h
  exact ⟨i, (Finset.mem_filter.mp hi).2, e⟩

theorem owedB_pos {c : Dev nD} {n : ℕ} {g : GSem nD τ sig} {u : Unit} (h : 0 < owedB c n g u) :
    (∃ i : Fin 28, g = rC (par (pk i) c) i) ∨ ∃ k : Fin 7, g = bC (par k c) := by
  unfold owedB at h
  rw [Pi.add_apply, Finsupp.add_apply] at h
  by_cases h0 : 0 < owedFrom c 0 g u
  · obtain ⟨i, -, e⟩ := owedFrom_pos h0; exact .inl ⟨i, e⟩
  · have h1 : 0 < (∑ k ∈ fromK n, tallyAt (bC (par k c)) () 1 : CellTallies nD τ sig Unit) g u := by omega
    obtain ⟨k, -, e⟩ := sum_tally_pos h1; exact .inr ⟨k, e⟩

/-- Waiting below everything still owed, of the copies; -/
theorem mayWait_from (c : Dev nD) (sm : SemLoc sig) (n : ℕ) (h : lv ((c : Thread nD τ), sm) () < n + 2) :
    (levAts L lv : sProp 𝕄) ⊢ MayWait (c : Thread nD τ) sm () (owedFrom c n) :=
  MayOwe.of_cut (L := L) (lev := lv) (lv ((c : Thread nD τ), sm) ())
    (fun p hp => by rw [Finset.mem_singleton.mp hp, L_tc]; exact Finset.mem_singleton_self _)
    (fun g u hg => by obtain ⟨i, -, rfl⟩ := owedFrom_pos hg; rw [L_tc]; exact Finset.mem_singleton_self _)
    (fun p hp => by rw [Finset.mem_singleton.mp hp])
    (fun g u hg => by obtain ⟨i, hi, rfl⟩ := owedFrom_pos hg; cases u; rw [lv_rC]; omega)

/-- and at entry, at level zero. -/
theorem mayWait_entry (c : Dev nD) (sm : SemLoc sig) (h : lv ((c : Thread nD τ), sm) () = 0) :
    (levAts L lv : sProp 𝕄) ⊢ MayWait (c : Thread nD τ) sm () (owedB c 0) :=
  MayOwe.of_cut (L := L) (lev := lv) 0
    (fun p hp => by rw [Finset.mem_singleton.mp hp, L_tc]; exact Finset.mem_singleton_self _)
    (fun g u hg => by rcases owedB_pos hg with ⟨i, rfl⟩ | ⟨k, rfl⟩ <;> (rw [L_tc]; exact Finset.mem_singleton_self _))
    (fun p hp => by rw [Finset.mem_singleton.mp hp, h])
    (fun g u hg => by
      cases u
      rcases owedB_pos hg with ⟨i, rfl⟩ | ⟨k, rfl⟩
      · rw [lv_rC]; omega
      · rw [lv_bC]; omega)

end Cert.Reduce

end
-- ==== Proof.Steps.lean ====
/-
One rule for each kind of step of the kernel, over the bundle of everything a device holds for the copies
still to start, in flight and done.
-/
module

public import proofs.«01_k».proof.Proof.Schedule

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (P : Dev nD → WB F)

theorem sep_in {ι : Type} [DecidableEq ι] {s : Finset ι} {i : ι} (h : i ∉ s) (Φ : ι → sProp 𝕄) :
    bigSep (insert i s) Φ = iprop(Φ i ∗ bigSep s Φ) := bigSep_insert h
theorem sep_get {ι : Type} [DecidableEq ι] {s : Finset ι} {i : ι} (h : i ∈ s) (Φ : ι → sProp 𝕄) : bigSep s Φ ⊢ Φ i := bigSep_elim h

/-! ## The cells, for all devices to see -/

/-- A device's cells: its barrier, its send and receive cells. -/
abbrev csem : Option (Fin 56) → SemLoc sig
  | none => .reg barS
  | some k => .dma (dm k)
abbrev kcell (p : Dev nD × Option (Fin 56)) : GSem nD τ sig := ((p.1 : Thread nD τ), csem p.2)

/-- Every cell's invariant, and that its round is open. -/
def records (K : Dev nD × Option (Fin 56) → ℕ) : sProp 𝕄 :=
  bigSep Finset.univ fun p => iprop(cellInv ER (sched P) (K p) (kcell p) ∗ reached ER (kcell p) 0)
instance records_persistent (K : Dev nD × Option (Fin 56) → ℕ) : BI.Persistent (records P K) := by unfold records; infer_instance

def ctx : sProp 𝕄 := iprop((∃ K, records P K) ∗ levAts L lv)
instance ctx_persistent : BI.Persistent (ctx P) := by unfold ctx; infer_instance

theorem ctx_cell (p : Dev nD × Option (Fin 56)) :
    ctx P ⊢ iprop(∃ κ : ℕ, cellInv ER (sched P) κ (kcell p) ∗ reached ER (kcell p) 0) := by
  unfold ctx records
  iintro ⟨⟨%K, H⟩, -⟩
  iexists (K p)
  iapply (sep_get (Finset.mem_univ p) (fun p => iprop(cellInv ER (sched P) (K p) (kcell p) ∗ reached ER (kcell p) 0)))
  iexact H

theorem ctx_from (c : Dev nD) (sm : SemLoc sig) (n : ℕ) (h : lv ((c : Thread nD τ), sm) () < n + 2) :
    ctx P ⊢ MayWait (c : Thread nD τ) sm () (owedFrom c n) := by
  unfold ctx; iintro ⟨-, H⟩; iapply (mayWait_from c sm n h); iexact H

/-! ## The bundle -/

/-- Copy `i` before its start. -/
def Tk (i : Fin 28) (c : Dev nD) : sProp 𝕄 :=
  iprop(dutyTok ER (sC c i) 0 0 ∗ dutyTok ER (rC (par (pk i) c) i) 0 0 ∗ atPos ER (sC c i) 0 ∅ 0 ∗ atPos ER (rC c i) 0 ∅ 0
    ∗ cred (tallyAt (rC c i) () (Nn i)))
/-- In flight. -/
def Fl (i : Fin 28) (c : Dev nD) : sProp 𝕄 :=
  iprop(cred (tallyAt (sC c i) () (Nn i)) ∗ atPos ER (sC c i) 0 ∅ 0 ∗ atPos ER (rC c i) 0 ∅ 0 ∗ cred (tallyAt (rC c i) () (Nn i)))
/-- Its send cell waited for. -/
def Fw (i : Fin 28) (c : Dev nD) : sProp 𝕄 :=
  iprop(semVal (sC c i) 0 ∗ atPos ER (rC c i) 0 ∅ 0 ∗ cred (tallyAt (rC c i) () (Nn i)))
/-- Both cells closed. -/
def Zs (i : Fin 28) (c : Dev nD) : sProp 𝕄 := iprop(semVal (sC c i) 0 ∗ semVal (rC c i) 0)

/-- The copies from `m` to before `j`; those before `m`. -/
def fl (m j : ℕ) : Finset (Fin 28) := Finset.univ.filter fun i => m ≤ i.val ∧ i.val < j
def zs (m : ℕ) : Finset (Fin 28) := Finset.univ.filter fun i => i.val < m
theorem fl_push {i : Fin 28} {m : ℕ} (h : m ≤ i.val) : fl m (i.val + 1) = insert i (fl m i.val) := by
  ext j; simp only [fl, Finset.mem_filter, Finset.mem_univ, true_and, Finset.mem_insert, Fin.ext_iff]; omega
theorem not_mem_fl_push (i : Fin 28) (m : ℕ) : i ∉ fl m i.val := by simp [fl]
theorem fl_pop {i : Fin 28} {j : ℕ} (h : i.val < j) : fl i.val j = insert i (fl (i.val + 1) j) := by
  ext k; simp only [fl, Finset.mem_filter, Finset.mem_univ, true_and, Finset.mem_insert, Fin.ext_iff]; omega
theorem not_mem_fl_pop (i : Fin 28) (j : ℕ) : i ∉ fl (i.val + 1) j := by simp [fl]
theorem zs_succ (i : Fin 28) : zs (i.val + 1) = insert i (zs i.val) := by
  ext j; simp only [zs, Finset.mem_filter, Finset.mem_univ, true_and, Finset.mem_insert, Fin.ext_iff]; omega
theorem not_mem_zs (i : Fin 28) : i ∉ zs i.val := by simp [zs]

/-- A device owing `O`. -/
def Ow (c : Dev nD) (O : CellTallies nD τ sig Unit) : sProp 𝕄 := iprop(∃ W : Waits sig Unit, owes (c : Thread nD τ) O W)

/-- `j` copies started, the first `m` of them waited for; -/
def St (c : Dev nD) (j m : ℕ) : sProp 𝕄 :=
  iprop(Ow c (owedFrom c j) ∗ bigSep (fromN j) (Tk · c) ∗ bigSep (fl m j) (Fl · c) ∗ bigSep (zs m) (Zs · c))
/-- and the send cell of copy `m` waited for as well. -/
def Sw (c : Dev nD) (j m : ℕ) : sProp 𝕄 :=
  iprop(Ow c (owedFrom c j) ∗ bigSep (fromN j) (Tk · c) ∗ bigSep (fl (m + 1) j) (Fl · c) ∗ bigSep (zs m) (Zs · c) ∗ ∃ i : Fin 28, ⌜i.val = m⌝ ∗ Fw i c)

theorem wk_src (i : Fin 28) (c : Dev nD) (q : PosShare TreeShare) (f : WB F) :
    (wk c (sLo i c) (len i) q f : sProp 𝕄)
      = ((srcM i c).view.loc (c : Thread nD τ) ↦[(srcM i c).view.set]{q} (f : Buf (Elt F) ((srcM i c).view.loc (c : Thread nD τ)))) := by
  unfold wk srcM; rw [rowM_set]
theorem rd_congr {lo lo' n : ℕ} (e : lo = lo') (h : lo + n ≤ 1024) (h' : lo' + n ≤ 1024) (f : WB F) : rd lo n h f = rd lo' n h' f := by
  subst e; rfl

/-! ## Copies -/

section Steps
variable {α : Type} {Q : α → sProp (MT nD τ sig Unit (Elt F) ℕ UU ℕ)}

/-- A copy of the way in: its source rows go with it. -/
theorem wp_rs (i : Fin 28) (hi : i.val < 14) (c n : Dev nD) (hn : n = par (pk i) c) {j m : ℕ} (hj : i.val = j) (hm : m ≤ j)
    {src : Memref sig .tc .vmem (Sn (len i)) .bf16} (hs : src = srcM i c)
    {dst : Memref sig (Dev.tc n : Thread nD τ).2.kind .vmem (Sn (len i)) .bf16} (hd : dst = rM i)
    {sS sR : DmaSem sig} (hsS : sS = sd i) (hsR : sR = rv i)
    {hsc : dst.view.ref.isScScratch = false} {h1 : src.view.WordExact} {h2 : dst.view.WordExact}
    {h3 : DmaTarget.Typed .vmem (.dma sR) (.remote (Dev.tc n : Thread nD τ) dst (.dma sS) hsc)}
    {k : PUnit → Prog (TpuEff nD τ sig (Elt F) Λ₀ .tc) α} :
    iprop(ctx P ∗ St c j m ∗ wk c (oLo i c) (len i) fullShare (val P i c) ∗ bufAt i (par (pk i) c))
      ⊢ iprop((St c (j + 1) m -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) h1 h2 h3) k) Q) := by
  subst hn hs hd hsS hsR hj
  unfold St Ow
  rw [fromN_succ i, sep_in (not_mem_fromN i), fl_push hm, sep_in (not_mem_fl_push i m)]
  unfold Tk Fl bufAt
  iintro ⟨#Hc, ⟨⟨%W, HO⟩, ⟨⟨HtS, HtR, HaS, HaR, HcR⟩, HT⟩, HF, HZ⟩, Hw, ⟨%fd, Hb⟩⟩ Hk
  ihave HsC := (ctx_cell P (c, some (sIx i))) $$ Hc
  icases HsC with ⟨%κ1, #HI1, #Hr1⟩
  ihave HrC := (ctx_cell P (par (pk i) c, some (rIx i))) $$ Hc
  icases HrC with ⟨%κ2, #HI2, #Hr2⟩
  have hw : (wk c (oLo i c) (len i) fullShare (val P i c) : sProp 𝕄)
      = ((srcM i c).view.loc (c : Thread nD τ) ↦[(srcM i c).view.set]{fullShare} (val P i c : Buf (Elt F) ((srcM i c).view.loc (c : Thread nD τ)))) := by
    rw [← sLo_rs hi c]; exact wk_src i c _ _
  ihave Hw' := (Entails.of_eq hw) $$ Hw
  iapply (Rounds.wp_send_landing_pointsTo 𝒱₀ ER (sched P) (c : Thread nD τ) none (κ₁ := κ1) (κ₂ := κ2)
    (r₁ := 0) (r₂ := 0) (d₁ := 0) (d₂ := 0) (fd := fd) (q := fullShare) (fs := (val P i c : Buf (Elt F) ((srcM i c).view.loc (c : Thread nD τ))))
    (by rw [duties_dma]; exact Finset.mem_singleton_self _) (by rw [duties_dma]; exact Finset.mem_singleton_self _)
    () () (Nn i) (show (rM i).view.amount (.dma (rv i)) = Nn i from rM_credit i) (amount_snd P c i 0) (amount_rcv P (par (pk i) c) i 0) (owedFrom c (i.val + 1)) (owedFrom_succ c i) (W := W)
    (by rw [payload_snd]; unfold sendPay; rw [if_pos hi])
    (by
      rw [payload_rcv, ← hw]; unfold recvPay rsPay; rw [if_pos hi, par_par]
      iintro ⟨H1, H2⟩
      isplitl [H1]
      · iexists fd
        have e : (srcM i c).view.read (Elt F) (val P i c : Buf (Elt F) ((srcM i c).view.loc (c : Thread nD τ)))
            = rd (kLo i (par (pk i) c)) (len i) (kLo_inb i _) (val P i c) := rd_congr (sLo_rs hi c) _ _ _
        rw [← e]; iexact H1
      · iexact H2)) $$ [Hw' Hb HO HtS HtR]
  · isplitr; · iexact HI1
    isplitr; · iexact HI2
    isplitl [Hw']; · iexact Hw'
    isplitl [Hb]; · iexact Hb
    isplitl [HO]; · iexact HO
    isplitl [HtS]; · iexact HtS
    isplitr; · iexact Hr1
    isplitl [HtR]; · iexact HtR
    iexact Hr2
  iintro ⟨HcS, HO⟩
  iapply Hk
  isplitl [HO]; · iexists W; iexact HO
  isplitl [HT]; · iexact HT
  isplitr [HZ]
  · isplitr [HF]
    · isplitl [HcS]; · iexact HcS
      isplitl [HaS]; · iexact HaS
      isplitl [HaR]; · iexact HaR
      iexact HcR
    · iexact HF
  · iexact HZ

/-- A copy of the way back: a share of its source rows stays with its send cell. -/
theorem wp_ag (i : Fin 28) (hi : ¬ i.val < 14) (c n : Dev nD) (hn : n = par (pk i) c) {j m : ℕ} (hj : i.val = j) (hm : m ≤ j)
    {src : Memref sig .tc .vmem (Sn (len i)) .bf16} (hs : src = srcM i c)
    {dst : Memref sig (Dev.tc n : Thread nD τ).2.kind .vmem (Sn (len i)) .bf16} (hd : dst = srcM i c)
    {sS sR : DmaSem sig} (hsS : sS = sd i) (hsR : sR = rv i)
    {hsc : dst.view.ref.isScScratch = false} {h1 : src.view.WordExact} {h2 : dst.view.WordExact}
    {h3 : DmaTarget.Typed .vmem (.dma sR) (.remote (Dev.tc n : Thread nD τ) dst (.dma sS) hsc)}
    {k : PUnit → Prog (TpuEff nD τ sig (Elt F) Λ₀ .tc) α} (f : WB F) :
    iprop(ctx P ∗ St c j m ∗ wk c (kLo i c) (len i) (qs i) (fin P) ∗ wk (par (pk i) c) (kLo i c) (len i) fullShare f)
      ⊢ iprop((St c (j + 1) m -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) h1 h2 h3) k) Q) := by
  subst hn hs hd hsS hsR hj
  unfold St Ow
  rw [fromN_succ i, sep_in (not_mem_fromN i), fl_push hm, sep_in (not_mem_fl_push i m)]
  unfold Tk Fl
  iintro ⟨#Hc, ⟨⟨%W, HO⟩, ⟨⟨HtS, HtR, HaS, HaR, HcR⟩, HT⟩, HF, HZ⟩, Hw, Hb⟩ Hk
  ihave HsC := (ctx_cell P (c, some (sIx i))) $$ Hc
  icases HsC with ⟨%κ1, #HI1, #Hr1⟩
  ihave HrC := (ctx_cell P (par (pk i) c, some (rIx i))) $$ Hc
  icases HrC with ⟨%κ2, #HI2, #Hr2⟩
  have hw : (wk c (kLo i c) (len i) (qs i) (fin P) : sProp 𝕄)
      = ((srcM i c).view.loc (c : Thread nD τ) ↦[(srcM i c).view.set]{qs i} (fin P : Buf (Elt F) ((srcM i c).view.loc (c : Thread nD τ)))) := by
    rw [← sLo_ag hi c]; exact wk_src i c _ _
  have hb (g : WB F) : (wk (par (pk i) c) (kLo i c) (len i) fullShare g : sProp 𝕄)
      = ((srcM i c).view.loc (par (pk i) c : Thread nD τ) ↦[(srcM i c).view.set]{fullShare} (g : Buf (Elt F) ((srcM i c).view.loc (par (pk i) c : Thread nD τ)))) := by
    rw [← sLo_ag hi c]; unfold wk srcM; rw [rowM_set]
  ihave Hw' := (Entails.of_eq hw) $$ Hw
  ihave Hb' := (Entails.of_eq (hb f)) $$ Hb
  iapply (Rounds.wp_send_pointsTo 𝒱₀ ER (sched P) (c : Thread nD τ) none (κ₁ := κ1) (κ₂ := κ2)
    (r₁ := 0) (r₂ := 0) (d₁ := 0) (d₂ := 0) (fd := (f : Buf (Elt F) ((srcM i c).view.loc (par (pk i) c : Thread nD τ)))) (q := qs i)
    (fs := (fin P : Buf (Elt F) ((srcM i c).view.loc (c : Thread nD τ))))
    (by rw [duties_dma]; exact Finset.mem_singleton_self _) (by rw [duties_dma]; exact Finset.mem_singleton_self _)
    () () (Nn i) (show (srcM i c).view.amount (.dma (rv i)) = Nn i from src_credit i c) (amount_snd P c i 0) (amount_rcv P (par (pk i) c) i 0)
    (owedFrom c (i.val + 1)) (owedFrom_succ c i) (W := W)
    (by rw [payload_snd, ← hw]; unfold sendPay; rw [if_neg hi])
    (by
      rw [payload_rcv]; unfold recvPay agPay; rw [if_neg hi, oLo_par]
      refine (Entails.of_eq (hb _).symm).trans (Entails.of_eq (wk_congr ?_))
      rw [← sLo_ag hi c]
      exact write_rd (sLo_inb i c) f (fin P))) $$ [Hw' Hb' HO HtS HtR]
  · isplitr; · iexact HI1
    isplitr; · iexact HI2
    isplitl [Hw']; · iexact Hw'
    isplitl [Hb']; · iexact Hb'
    isplitl [HO]; · iexact HO
    isplitl [HtS]; · iexact HtS
    isplitr; · iexact Hr1
    isplitl [HtR]; · iexact HtR
    iexact Hr2
  iintro ⟨HcS, HO⟩
  iapply Hk
  isplitl [HO]; · iexists W; iexact HO
  isplitl [HT]; · iexact HT
  isplitr [HZ]
  · isplitr [HF]
    · isplitl [HcS]; · iexact HcS
      isplitl [HaS]; · iexact HaS
      isplitl [HaR]; · iexact HaR
      iexact HcR
    · iexact HF
  · iexact HZ

/-- The wait on the send cell of copy `i`: its cell closes. -/
theorem wp_ws (i : Fin 28) (c : Dev nD) {j m : ℕ} (hm : i.val = m) (hj : m < j) {sS : DmaSem sig} (hsS : sS = sd i)
    {sp sp' : Space} {s s' : Shape} {e e' : EltTy} {src : Memref sig .tc sp' s' e'} {dst : Memref sig .tc sp s e}
    (hcr : dst.view.dmaCredit = Nn i) {h1 : src.view.WordExact} {h2 : dst.view.WordExact}
    {k : PUnit → Prog (TpuEff nD τ sig (Elt F) Λ₀ .tc) α} :
    iprop(ctx P ∗ St c j m)
      ⊢ iprop(((Sw c j m ∗ sendPay P i c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst h1 h2) k) Q) := by
  subst hsS hm
  unfold St Sw Ow
  rw [fl_pop hj, sep_in (not_mem_fl_pop i j)]
  unfold Fl
  iintro ⟨#Hc, ⟨⟨%W, HO⟩, HT, ⟨⟨HcS, HaS, HaR, HcR⟩, HF⟩, HZ⟩⟩ Hk
  ihave HsC := (ctx_cell P (c, some (sIx i))) $$ Hc
  icases HsC with ⟨%κ1, #HI1, -⟩
  rw [← hcr]
  iapply (Rounds.wp_wait_rest_token 𝒱₀ ER (sched P) (c : Thread nD τ) none (κ := κ1)
      (wpE_waitDma2_eq 𝒱₀ (c : Thread nD τ) none Set.univ) (Set.mem_univ _) () (O := owedFrom c j) (W := W) (R := 0) (m := 0) (T := ∅)
      (by rw [Nat.zero_add, expect_snd, hcr])) $$ [HcS HO HaS]
  · isplitr; · iexact HI1
    isplitl [HcS]; · iexact HcS
    isplitl [HO]; · iexact HO
    isplitr
    · iapply (ctx_from P c (.dma (sd i)) j (by rw [lv_sC]; omega)); iexact Hc
    iexact HaS
  iintro ⟨HO, HaS, -, Hpay⟩
  ihave Hp := (Entails.of_eq (rest_snd P c i)) $$ Hpay
  imod (Rounds.cell_close ER (sched P) (Set.mem_univ κ1) (fun h => h) (R := 0 + 1) (duties_later P (sC c i))) $$ [HaS] with Hz
  · isplitr; · iexact HI1
    iexact HaS
  iapply Hk
  isplitr [Hp]
  · isplitl [HO]; · iexists _; iexact HO
    isplitl [HT]; · iexact HT
    isplitl [HF]; · iexact HF
    isplitl [HZ]; · iexact HZ
    iexists i
    isplitr; · ipureintro; rfl
    unfold Fw
    isplitl [Hz]; · iexact Hz
    isplitl [HaR]; · iexact HaR
    rw [hcr]; iexact HcR
  · iexact Hp

/-- The wait on the receive cell of copy `i`. -/
theorem wp_wr (i : Fin 28) (c : Dev nD) {j m : ℕ} (hm : i.val = m) (hj : m < j) {sR : DmaSem sig} (hsR : sR = rv i)
    {sp sp' : Space} {s s' : Shape} {e e' : EltTy} {src : Memref sig .tc sp' s' e'} {dst : Memref sig .tc sp s e}
    (hcr : dst.view.dmaCredit = Nn i) {h1 : src.view.WordExact} {h2 : dst.view.WordExact}
    {k : PUnit → Prog (TpuEff nD τ sig (Elt F) Λ₀ .tc) α} :
    iprop(ctx P ∗ Sw c j m)
      ⊢ iprop(((St c j (m + 1) ∗ recvPay P i c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst h1 h2) k) Q) := by
  subst hsR hm
  unfold St Sw Ow
  rw [zs_succ i, sep_in (not_mem_zs i)]
  iintro ⟨#Hc, ⟨⟨%W, HO⟩, HT, HF, HZ, ⟨%i', %hi', Hw⟩⟩⟩ Hk
  obtain rfl : i' = i := Fin.ext hi'
  unfold Fw Zs
  icases Hw with ⟨Hzs, HaR, HcR⟩
  ihave HsC := (ctx_cell P (c, some (rIx i'))) $$ Hc
  icases HsC with ⟨%κ1, #HI1, -⟩
  rw [← hcr]
  iapply (Rounds.wp_wait_rest_token 𝒱₀ ER (sched P) (c : Thread nD τ) none (κ := κ1)
      (wpE_waitDma2_eq 𝒱₀ (c : Thread nD τ) none Set.univ) (Set.mem_univ _) () (O := owedFrom c j) (W := W) (R := 0) (m := 0) (T := ∅)
      (by rw [Nat.zero_add, expect_rcv, hcr])) $$ [HcR HO HaR]
  · isplitr; · iexact HI1
    isplitl [HcR]; · iexact HcR
    isplitl [HO]; · iexact HO
    isplitr
    · iapply (ctx_from P c (.dma (rv i')) j (by rw [lv_rC]; omega)); iexact Hc
    iexact HaR
  iintro ⟨HO, HaR, -, Hpay⟩
  ihave Hp := (Entails.of_eq (rest_rcv P c i')) $$ Hpay
  imod (Rounds.cell_close ER (sched P) (Set.mem_univ κ1) (fun h => h) (R := 0 + 1) (duties_later P (rC c i'))) $$ [HaR] with Hz
  · isplitr; · iexact HI1
    iexact HaR
  iapply Hk
  isplitr [Hp]
  · isplitl [HO]; · iexists _; iexact HO
    isplitl [HT]; · iexact HT
    isplitl [HF]; · iexact HF
    isplitr [HZ]
    · isplitl [Hzs]; · iexact Hzs
      iexact Hz
    · iexact HZ
  · iexact Hp

/-! ## Loads and stores -/

/-- Rows read out of a range that includes them. -/
theorem wp_ldw (c : Dev nD) {lo n lo' n' : ℕ} (h : lo + n ≤ 1024) {off : Fin 2 → ℕ} (ho : off = ![lo, 0]) (hl : lo' ≤ lo) (hh : lo + n ≤ lo' + n')
    {inb : ∀ a, off a + (Sn n).size a ≤ S1024x1024.size a} {q : PosShare TreeShare} {f : WB F}
    {hL : workM.view.LoadsAt (Rect.unit (s := S1024x1024) off (Sn n).size inb).toLoadRect}
    {k : ((Sn n).Idx → Elt F .bf16) → Prog (TpuEff nD τ sig (Elt F) Λ₀ .tc) α} :
    (wk c lo' n' q f : sProp 𝕄)
      ⊢ iprop((wk c lo' n' q f -∗ wp frame (wpE (defs₀ (F := F)) 𝒱₀ (c : Thread nD τ) none) Set.univ (k (rd lo n h f)) Q)
          -∗ wp frame (wpE (defs₀ (F := F)) 𝒱₀ (c : Thread nD τ) none) Set.univ
            (.op (.load workM (Rect.unit (s := S1024x1024) off (Sn n).size inb).toLoadRect hL) k) Q) := by
  subst ho
  unfold wk
  exact wp_load_rect 𝒱₀ (c : Thread nD τ) none Set.univ (m := workM) (r := rowR lo n h)
    (by rw [show (workM.access (rowR lo n h)).set = rows lo n from rowM_set h]; exact rows_subset hl hh)

/-- A range rewritten, after a read of it that is not used. -/
theorem wp_stw (c : Dev nD) {lo n : ℕ} (h : lo + n ≤ 1024) {off : Fin 2 → ℕ} (ho : off = ![lo, 0])
    {inb inb' : ∀ a, off a + (Sn n).size a ≤ S1024x1024.size a} {f g : WB F}
    {hL : workM.view.LoadsAt (Rect.unit (s := S1024x1024) off (Sn n).size inb).toLoadRect} {w : (Sn n).Idx → Elt F .bf16} (hw : w = rd lo n h g)
    {hx : (workM.access (Rect.unit (s := S1024x1024) off (Sn n).size inb')).Stores Finset.univ} {hm}
    {k : PUnit → Prog (TpuEff nD τ sig (Elt F) Λ₀ .tc) α} :
    (wk c lo n fullShare f : sProp 𝕄)
      ⊢ iprop((wk c lo n fullShare g -∗ wp frame (wpE (defs₀ (F := F)) 𝒱₀ (c : Thread nD τ) none) Set.univ (k ⟨⟩) Q)
          -∗ wp frame (wpE (defs₀ (F := F)) 𝒱₀ (c : Thread nD τ) none) Set.univ
            (.op (.load workM (Rect.unit (s := S1024x1024) off (Sn n).size inb).toLoadRect hL) fun _ =>
              .op (.store workM (Rect.unit (s := S1024x1024) off (Sn n).size inb') w Finset.univ hx hm) k) Q) := by
  subst ho hw
  have hS : (workM.access (rowR lo n h)).set = rows lo n := rowM_set h
  have e : (wk c lo n fullShare ((workM.access (rowR lo n h)).write (Elt F) f (rd lo n h g) Finset.univ) : sProp 𝕄) = wk c lo n fullShare g :=
    wk_congr (write_rd h f g)
  rw [← e]
  iintro H Hk
  iapply (wp_ldw c h rfl le_rfl le_rfl) $$ H
  iintro H
  unfold wk
  iapply (wp_store 𝒱₀ (c : Thread nD τ) none Set.univ (m := workM) (r := rowR lo n h) (Mk := Finset.univ)
    (S := rows lo n) (f := f) (by rw [View.setOn_univ, hS])) $$ H
  iintro H
  iapply Hk
  iexact H

/-- A landing buffer with contents `w`. -/
def lb (i : Fin 28) (c : Dev nD) (w : (Sn (len i)).Idx → Elt F .bf16) : sProp 𝕄 :=
  iprop(∃ fd : Buf (Elt F) ((rM i).view.loc (c : Thread nD τ)), (rM i).view.loc (c : Thread nD τ) ↦[(rM i).view.set]{fullShare}
      (rM i).view.write (Elt F) fd w Finset.univ)

theorem hz : (![0, 0] : Fin 2 → Nat) = fun _ => 0 := funext fun a => by fin_cases a <;> rfl

theorem whole_read (b : Ref sig .tc) (fd : b.ty.Contents (Elt F)) {off : Fin b.ty.shape.rank → ℕ} (ho : off = fun _ => 0) (inb)
    (w : b.ty.Contents (Elt F)) :
    (Memref.whole b).view.readAt (Elt F) (Rect.unit (s := b.ty.shape) off b.ty.shape.size inb).toLoadRect
      ((Memref.whole b).view.write (Elt F) fd w Finset.univ) = w :=
  (Memref.readAt_unit_zero (Elt F) b ho inb _).trans (View.write_whole_univ b fd w)

theorem rM_read : ∀ (i : Fin 28), i.val < 14 → ∀ (c : Dev nD) (fd : Buf (Elt F) ((rM i).view.loc (c : Thread nD τ))) (w : (Sn (len i)).Idx → Elt F .bf16)
    (inb : ∀ a, (![0, 0] : Fin 2 → ℕ) a + (Sn (len i)).size a ≤ (Sn (len i)).size a),
    (rM i).view.readAt (Elt F) (Rect.unit (s := Sn (len i)) ![0, 0] (Sn (len i)).size inb).toLoadRect ((rM i).view.write (Elt F) fd w Finset.univ) = w
  | 0, _, _, fd, w, inb => whole_read cc0_scratch1 fd hz inb w
  | 1, _, _, fd, w, inb => whole_read cc0_scratch8 fd hz inb w
  | 2, _, _, fd, w, inb => whole_read cc0_scratch9 fd hz inb w
  | 3, _, _, fd, w, inb => whole_read cc0_scratch10 fd hz inb w
  | 4, _, _, fd, w, inb => whole_read cc0_scratch2 fd hz inb w
  | 5, _, _, fd, w, inb => whole_read cc0_scratch3 fd hz inb w
  | 6, _, _, fd, w, inb => whole_read cc0_scratch4 fd hz inb w
  | 7, _, _, fd, w, inb => whole_read cc0_scratch11 fd hz inb w
  | 8, _, _, fd, w, inb => whole_read cc0_scratch12 fd hz inb w
  | 9, _, _, fd, w, inb => whole_read cc0_scratch13 fd hz inb w
  | 10, _, _, fd, w, inb => whole_read cc0_scratch5 fd hz inb w
  | 11, _, _, fd, w, inb => whole_read cc0_scratch6 fd hz inb w
  | 12, _, _, fd, w, inb => whole_read cc0_scratch7 fd hz inb w
  | 13, _, _, fd, w, inb => whole_read cc0_scratch14 fd hz inb w
  | ⟨n + 14, _⟩, h, _, _, _, _ => absurd h (by simp)

/-- The read of a landing buffer. -/
theorem wp_ldb (i : Fin 28) (hi : i.val < 14) (c : Dev nD) {w : (Sn (len i)).Idx → Elt F .bf16}
    {M : Memref sig .tc .vmem (Sn (len i)) .bf16} (hM : M = rM i)
    {inb : ∀ a, (![0, 0] : Fin 2 → ℕ) a + (Sn (len i)).size a ≤ (Sn (len i)).size a}
    {hL : M.view.LoadsAt (Rect.unit (s := Sn (len i)) ![0, 0] (Sn (len i)).size inb).toLoadRect}
    {k : ((Sn (len i)).Idx → Elt F .bf16) → Prog (TpuEff nD τ sig (Elt F) Λ₀ .tc) α} :
    (lb i c w : sProp 𝕄)
      ⊢ iprop((bufAt i c -∗ wp frame (wpE (defs₀ (F := F)) 𝒱₀ (c : Thread nD τ) none) Set.univ (k w) Q)
          -∗ wp frame (wpE (defs₀ (F := F)) 𝒱₀ (c : Thread nD τ) none) Set.univ
            (.op (.load M (Rect.unit (s := Sn (len i)) ![0, 0] (Sn (len i)).size inb).toLoadRect hL) k) Q) := by
  subst hM
  unfold lb bufAt
  iintro ⟨%fd, H⟩ Hk
  iapply (wp_load 𝒱₀ (c : Thread nD τ) none Set.univ (m := rM i) (View.setOn_subset_set _ _)) $$ H
  iintro H
  rw [rM_read i hi c]
  iapply Hk
  iexists _
  iexact H

/-- The result's staging buffer, the ranges `D` done. -/
def Out (c : Dev nD) (D : List (ℕ × ℕ)) : sProp 𝕄 :=
  iprop(∃ g : OB F, ⌜Done P D g⌝ ∗ (((c : Thread nD τ).loc cc0_stg2_0) ↦{fullShare} g))

/-- A range converted into the result, after a read of it that is not used. -/
theorem wp_out (c : Dev nD) {D : List (ℕ × ℕ)} {lo n : ℕ} (h : lo + n ≤ 1024) {off : Fin 2 → ℕ} (ho : off = ![lo, 0])
    {inb inb' : ∀ a, off a + (Sn n).size a ≤ S1024x1024.size a}
    {hL : oM.view.LoadsAt (Rect.unit (s := S1024x1024) off (Sn n).size inb).toLoadRect} {w : (Sn n).Idx → Elt F .f32} (hw : w = ex (rd lo n h (fin P)))
    {hx : (oM.access (Rect.unit (s := S1024x1024) off (Sn n).size inb')).Stores Finset.univ} {hm}
    {k : PUnit → Prog (TpuEff nD τ sig (Elt F) Λ₀ .tc) α} :
    (Out P c D : sProp 𝕄)
      ⊢ iprop((Out P c ((lo, n) :: D) -∗ wp frame (wpE (defs₀ (F := F)) 𝒱₀ (c : Thread nD τ) none) Set.univ (k ⟨⟩) Q)
          -∗ wp frame (wpE (defs₀ (F := F)) 𝒱₀ (c : Thread nD τ) none) Set.univ
            (.op (.load oM (Rect.unit (s := S1024x1024) off (Sn n).size inb).toLoadRect hL) fun _ =>
              .op (.store oM (Rect.unit (s := S1024x1024) off (Sn n).size inb') w Finset.univ hx hm) k) Q) := by
  subst ho hw
  unfold Out
  iintro ⟨%g, %hD, H⟩ Hk
  iapply (wp_load 𝒱₀ (c : Thread nD τ) none Set.univ (m := oM) (Finset.subset_univ _)) $$ H
  iintro H
  iapply (wp_store 𝒱₀ (c : Thread nD τ) none Set.univ (m := oM) (r := rowR lo n h) (Mk := Finset.univ) (Finset.subset_univ _)) $$ H
  iintro H
  iapply Hk
  iexists _
  isplitr; · ipureintro; exact done_cons P hD h fun _ _ => rfl
  iexact H

end Steps

end Cert.Reduce

end
-- ==== Proof.Entry.lean ====
/-
The rules as the parts of the kernel use them, and the two steps of its entry barrier.
-/
module

public import proofs.«01_k».proof.Proof.Steps

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → WB F)

/-- A part of the body at the kernel's own buffers and semaphores. -/
abbrev app {β : Sort _} (f : ∀ (arg0 : Memref sig .tc .vmem S1024x32 .bf16) (harg0 : arg0.IsWhole) (arg1 : Memref sig .tc .vmem S32x1024 .bf16) (harg1 : arg1.IsWhole) (arg2 : Memref sig .tc .vmem S1024x1024 .f32) (harg2 : arg2.IsWhole)
    (arg3 : Memref sig .tc .vmem S1024x1024 .bf16) (harg3 : arg3.IsWhole) (arg4 : Memref sig .tc .vmem S256x1024 .bf16) (harg4 : arg4.IsWhole) (arg5 : Memref sig .tc .vmem S64x1024 .bf16) (harg5 : arg5.IsWhole)
    (arg6 : Memref sig .tc .vmem S64x1024 .bf16) (harg6 : arg6.IsWhole) (arg7 : Memref sig .tc .vmem S64x1024 .bf16) (harg7 : arg7.IsWhole) (arg8 : Memref sig .tc .vmem S16x1024 .bf16) (harg8 : arg8.IsWhole)
    (arg9 : Memref sig .tc .vmem S16x1024 .bf16) (harg9 : arg9.IsWhole) (arg10 : Memref sig .tc .vmem S16x1024 .bf16) (harg10 : arg10.IsWhole) (arg11 : Memref sig .tc .vmem S128x1024 .bf16) (harg11 : arg11.IsWhole)
    (arg12 : Memref sig .tc .vmem S128x1024 .bf16) (harg12 : arg12.IsWhole) (arg13 : Memref sig .tc .vmem S128x1024 .bf16) (harg13 : arg13.IsWhole) (arg14 : Memref sig .tc .vmem S32x1024 .bf16) (harg14 : arg14.IsWhole)
    (arg15 : Memref sig .tc .vmem S32x1024 .bf16) (harg15 : arg15.IsWhole) (arg16 : Memref sig .tc .vmem S32x1024 .bf16) (harg16 : arg16.IsWhole) (arg17 : Memref sig .tc .vmem S16x1024 .bf16) (harg17 : arg17.IsWhole)
    (arg18 : DmaSems sig S28) (arg19 : DmaSems sig S28), β) : β :=
  f (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole cc0_scratch14) (Memref.isWhole_whole _)
    cc0_scratch15 cc0_scratch16

/-- The landing buffers of the copies still to start, at their receivers. -/
def Ld (c : Dev nD) (j : ℕ) : sProp 𝕄 := bigSep (fl j 14) fun i => bufAt i (par (pk i) c)
/-- The device's own landing buffers, read and so its own again. -/
def Bk (c : Dev nD) (m : ℕ) : sProp 𝕄 := bigSep (zs m) fun i => bufAt i c
/-- The landing buffer of copy `i`, full. -/
def Lb (i : Fin 28) (c : Dev nD) : sProp 𝕄 := lb i c (rd (kLo i c) (len i) (kLo_inb i c) (val P i (par (pk i) c)))
/-- The source rows of copy `i` of the way in. -/
def Src (i : Fin 28) (c : Dev nD) : sProp 𝕄 := wk c (oLo i c) (len i) fullShare (val P i c)
/-- The share of its source a copy of the way back holds, and the rows it brings. -/
def Sr (i : Fin 28) (c : Dev nD) : sProp 𝕄 := wk c (kLo i c) (len i) (qs i) (fin P)
def Gt (i : Fin 28) (c : Dev nD) : sProp 𝕄 := wk c (oLo i c) (len i) fullShare (fin P)
/-- The rows at the partner that a copy of the way back will fill. -/
def Dn (i : Fin 28) (c : Dev nD) : sProp 𝕄 := iprop(∃ f : WB F, wk (par (pk i) c) (kLo i c) (len i) fullShare f)
/-- The run of a program on device `c`. -/
abbrev wpb (c : Dev nD) {β : Type} (e : Prog (TpuEff nD τ sig (Elt F) Λ₀ .tc) β) (K : β → sProp 𝕄) : sProp 𝕄 :=
  wp frame (wpE (defs₀ (F := F)) 𝒱₀ (c : Thread nD τ) none) Set.univ e K
theorem cd (i : Fin 28) (c : Dev nD) {h : cdev i c < nD} : (⟨cdev i c, h⟩ : Dev nD) = par (pk i) c := Fin.ext (cdev_eq i c)
theorem cs (i : Fin 28) (c : Dev nD) {inb : ∀ a, coff i c a + (Sn (len i)).size a ≤ S1024x1024.size a} {hs} :
    workM.slice (Rect.unit (s := S1024x1024) (coff i c) (Sn (len i)).size inb) hs = srcM i c := src_eq i c (coff_eq i c) inb hs
/-- What the signals still to send carry. -/
def Sg (n : ℕ) (c : Dev nD) : sProp 𝕄 :=
  bigSep (fromK n) fun k => iprop(dutyTok ER (bC (par k c)) 0 k ∗ bigSep (bufs k) fun i => bufAt i c)

theorem recvPay_in {i : Fin 28} (hi : i.val < 14) (c : Dev nD) : recvPay P i c ⊢ iprop(Lb P i c ∗ Dn i c) := by
  unfold recvPay rsPay Lb lb Dn; rw [if_pos hi]
  iintro ⟨H1, H2⟩
  isplitl [H1]; · iexact H1
  iexists _; iexact H2

section Rules
variable {α : Type} {Q : α → sProp (MT nD τ sig Unit (Elt F) ℕ UU ℕ)}

theorem go_rs (i : Fin 28) (hi : i.val < 14) (c : Dev nD) (j m : ℕ) {n : Dev nD} (hn : n = par (pk i) c) (hj : i.val = j) (hm : m ≤ j)
    {src : Memref sig .tc .vmem (Sn (len i)) .bf16} (hs : src = srcM i c)
    {dst : Memref sig (Dev.tc n : Thread nD τ).2.kind .vmem (Sn (len i)) .bf16} (hd : dst = rM i)
    {sS sR : DmaSem sig} (hsS : sS = sd i) (hsR : sR = rv i)
    {hsc : dst.view.ref.isScScratch = false} {h1 : src.view.WordExact} {h2 : dst.view.WordExact}
    {h3 : DmaTarget.Typed .vmem (.dma sR) (.remote (Dev.tc n : Thread nD τ) dst (.dma sS) hsc)}
    {k : PUnit → Prog (TpuEff nD τ sig (Elt F) Λ₀ .tc) α} :
    ctx P ⊢ iprop(St c j m -∗ Ld c j -∗ Src P i c
      -∗ (St c (j + 1) m -∗ Ld c (j + 1) -∗ wp frame (wpE (defs₀ (F := F)) 𝒱₀ (c : Thread nD τ) none) Set.univ (k ⟨⟩) Q)
      -∗ wp frame (wpE (defs₀ (F := F)) 𝒱₀ (c : Thread nD τ) none) Set.univ
              (.op (.enqueueDma src (.remote (Dev.tc n : Thread nD τ) dst (.dma sS) hsc) (.dma sR) h1 h2 h3) k) Q) := by
  subst hj
  unfold Ld Src
  rw [fl_pop hi, sep_in (not_mem_fl_pop i 14)]
  iintro #Hc HS ⟨Hb, HL⟩ Hw Hk
  iapply (wp_rs P i hi c n hn rfl hm hs hd hsS hsR) $$ [HS Hb Hw]
  · isplitr; · iexact Hc
    isplitl [HS]; · iexact HS
    isplitl [Hw]; · iexact Hw
    iexact Hb
  iintro HS
  iapply Hk $$ HS HL

theorem go_ag (i : Fin 28) (hi : ¬ i.val < 14) (c : Dev nD) (j m : ℕ) {n : Dev nD} (hn : n = par (pk i) c) (hj : i.val = j) (hm : m ≤ j)
    {src : Memref sig .tc .vmem (Sn (len i)) .bf16} (hs : src = srcM i c)
    {dst : Memref sig (Dev.tc n : Thread nD τ).2.kind .vmem (Sn (len i)) .bf16} (hd : dst = srcM i c)
    {sS sR : DmaSem sig} (hsS : sS = sd i) (hsR : sR = rv i)
    {hsc : dst.view.ref.isScScratch = false} {h1 : src.view.WordExact} {h2 : dst.view.WordExact}
    {h3 : DmaTarget.Typed .vmem (.dma sR) (.remote (Dev.tc n : Thread nD τ) dst (.dma sS) hsc)}
    {k : PUnit → Prog (TpuEff nD τ sig (Elt F) Λ₀ .tc) α} :
    ctx P ⊢ iprop(St c j m -∗ Sr P i c -∗ Dn i c
      -∗ (St c (j + 1) m -∗ wp frame (wpE (defs₀ (F := F)) 𝒱₀ (c : Thread nD τ) none) Set.univ (k ⟨⟩) Q)
      -∗ wp frame (wpE (defs₀ (F := F)) 𝒱₀ (c : Thread nD τ) none) Set.univ
              (.op (.enqueueDma src (.remote (Dev.tc n : Thread nD τ) dst (.dma sS) hsc) (.dma sR) h1 h2 h3) k) Q) := by
  unfold Dn Sr
  iintro #Hc HS Hw ⟨%f, Hb⟩ Hk
  iapply (wp_ag P i hi c n hn hj hm hs hd hsS hsR f) $$ [HS Hb Hw]
  · isplitr; · iexact Hc
    isplitl [HS]; · iexact HS
    isplitl [Hw]; · iexact Hw
    iexact Hb
  iexact Hk

/-- Both waits for copy `i` in turn, of the way in, -/
theorem go_ws_rs (i : Fin 28) (hi : i.val < 14) (c : Dev nD) (j m : ℕ) (hm : i.val = m) (hj : m < j) {sS : DmaSem sig} (hsS : sS = sd i)
    {sp' : Space} {s' : Shape} {e' : EltTy} {src : Memref sig .tc sp' s' e'} {dst : Memref sig .tc .vmem (Sn (len i)) .bf16}
    (hd : dst = srcM i c) {h1 : src.view.WordExact} {h2 : dst.view.WordExact}
    {k : PUnit → Prog (TpuEff nD τ sig (Elt F) Λ₀ .tc) α} :
    ctx P ⊢ iprop(St c j m -∗ (Sw c j m -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sS src dst h1 h2) k) Q) := by
  iintro #Hc HS Hk
  iapply (wp_ws P i c hm hj hsS (hd ▸ src_credit i c)) $$ [HS]
  · isplitr; · iexact Hc
    iexact HS
  iintro ⟨HS, -⟩
  iapply Hk $$ HS

theorem go_wr_rs (i : Fin 28) (hi : i.val < 14) (c : Dev nD) (j m : ℕ) (hm : i.val = m) (hj : m < j) {sR : DmaSem sig} (hsR : sR = rv i)
    {sp' : Space} {s' : Shape} {e' : EltTy} {src : Memref sig .tc sp' s' e'} {dst : Memref sig .tc .vmem (Sn (len i)) .bf16}
    (hd : dst = rM i) {h1 : src.view.WordExact} {h2 : dst.view.WordExact}
    {k : PUnit → Prog (TpuEff nD τ sig (Elt F) Λ₀ .tc) α} :
    ctx P ⊢ iprop(Sw c j m
      -∗ (St c j (m + 1) -∗ Lb P i c -∗ Dn i c -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sR src dst h1 h2) k) Q) := by
  iintro #Hc HS Hk
  iapply (wp_wr P i c hm hj hsR (hd ▸ rM_credit i)) $$ [HS]
  · isplitr; · iexact Hc
    iexact HS
  iintro ⟨HS, H⟩
  ihave ⟨H1, H2⟩ := (recvPay_in P hi c) $$ H
  iapply Hk $$ HS H1 H2

/-- and of the way back. -/
theorem go_ws_ag (i : Fin 28) (hi : ¬ i.val < 14) (c : Dev nD) (j m : ℕ) (hm : i.val = m) (hj : m < j) {sS : DmaSem sig} (hsS : sS = sd i)
    {sp' : Space} {s' : Shape} {e' : EltTy} {src : Memref sig .tc sp' s' e'} {dst : Memref sig .tc .vmem (Sn (len i)) .bf16}
    (hd : dst = srcM i c) {h1 : src.view.WordExact} {h2 : dst.view.WordExact}
    {k : PUnit → Prog (TpuEff nD τ sig (Elt F) Λ₀ .tc) α} :
    ctx P ⊢ iprop(St c j m
      -∗ (Sw c j m -∗ Sr P i c -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sS src dst h1 h2) k) Q) := by
  iintro #Hc HS Hk
  iapply (wp_ws P i c hm hj hsS (hd ▸ src_credit i c)) $$ [HS]
  · isplitr; · iexact Hc
    iexact HS
  unfold sendPay Sr; rw [if_neg hi]
  iintro ⟨HS, H⟩
  iapply Hk $$ HS H

theorem go_wr_ag (i : Fin 28) (hi : ¬ i.val < 14) (c : Dev nD) (j m : ℕ) (hm : i.val = m) (hj : m < j) {sR : DmaSem sig} (hsR : sR = rv i)
    {sp' : Space} {s' : Shape} {e' : EltTy} {src : Memref sig .tc sp' s' e'} {dst : Memref sig .tc .vmem (Sn (len i)) .bf16}
    (hd : dst = srcM i c) {h1 : src.view.WordExact} {h2 : dst.view.WordExact}
    {k : PUnit → Prog (TpuEff nD τ sig (Elt F) Λ₀ .tc) α} :
    ctx P ⊢ iprop(Sw c j m
      -∗ (St c j (m + 1) -∗ Gt P i c -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sR src dst h1 h2) k) Q) := by
  iintro #Hc HS Hk
  iapply (wp_wr P i c hm hj hsR (hd ▸ src_credit i c)) $$ [HS]
  · isplitr; · iexact Hc
    iexact HS
  unfold recvPay agPay Gt; rw [if_neg hi]
  iintro ⟨HS, H⟩
  iapply Hk $$ HS H

/-- The read of a full landing buffer. -/
theorem go_ldb (i : Fin 28) (hi : i.val < 14) (c : Dev nD) (m : ℕ) (hm : i.val = m)
    {M : Memref sig .tc .vmem (Sn (len i)) .bf16} (hM : M = rM i)
    {inb : ∀ a, (![0, 0] : Fin 2 → ℕ) a + (Sn (len i)).size a ≤ (Sn (len i)).size a}
    {hL : M.view.LoadsAt (Rect.unit (s := Sn (len i)) ![0, 0] (Sn (len i)).size inb).toLoadRect}
    {k : ((Sn (len i)).Idx → Elt F .bf16) → Prog (TpuEff nD τ sig (Elt F) Λ₀ .tc) α} :
    Lb P i c ⊢ iprop(Bk c m
      -∗ (Bk c (m + 1) -∗ wp frame (wpE (defs₀ (F := F)) 𝒱₀ (c : Thread nD τ) none) Set.univ
            (k (rd (kLo i c) (len i) (kLo_inb i c) (val P i (par (pk i) c)))) Q)
      -∗ wp frame (wpE (defs₀ (F := F)) 𝒱₀ (c : Thread nD τ) none) Set.univ
            (.op (.load M (Rect.unit (s := Sn (len i)) ![0, 0] (Sn (len i)).size inb).toLoadRect hL) k) Q) := by
  subst hm
  unfold Lb Bk
  rw [zs_succ i, sep_in (not_mem_zs i)]
  iintro Hb HB Hk
  iapply (wp_ldb i hi c hM) $$ Hb
  iintro Hb
  iapply Hk
  isplitl [Hb]; · iexact Hb
  iexact HB

/-! ## The entry barrier -/

theorem go_sig (k : Fin 7) (c : Dev nD) (j : ℕ) {n : Dev nD} (hn : n = par k c) (hj : k.val = j) {s : Sem sig} (hs : s = barS) {a : ℕ} (ha : 1 = a)
    {kk : PUnit → Prog (TpuEff nD τ sig (Elt F) Λ₀ .tc) α} :
    ctx P ⊢ iprop(Ow c (owedB c j) -∗ Sg j c
      -∗ (Ow c (owedB c (j + 1)) -∗ Sg (j + 1) c -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (n : Thread nD τ) s a) kk) Q) := by
  subst hn hj hs ha
  unfold Ow Sg
  rw [fromK_succ k, sep_in (not_mem_fromK k)]
  iintro #Hc ⟨%W, HO⟩ ⟨⟨Ht, Hb⟩, HS⟩ Hk
  ihave HbC := (ctx_cell P (par k c, none)) $$ Hc
  icases HbC with ⟨%κ, #HI, #Hr⟩
  iapply (Rounds.wp_signal 𝒱₀ ER (sched P) (c : Thread nD τ) none (dst := (par k c : Thread nD τ)) (κ := κ)
      (d := k) (by rw [duties_bar]; exact Finset.mem_univ _) (amount_bar P (par k c) k) () (owedB c (k.val + 1)) (owedB_succ c k))
    $$ [HO Ht Hb]
  · isplitr; · iexact HI
    isplitl [HO]; · iexact HO
    isplitl [Ht]; · iexact Ht
    isplitl [Hb]; · rw [payload_bar]; unfold barPay; rw [par_par]; iexact Hb
    iexact Hr
  iintro HO
  iapply Hk $$ [HO] HS
  iexists W; iexact HO

theorem bufs_all (c : Dev nD) : (bigSep Finset.univ fun k => barPay k c : sProp 𝕄) = Ld c 0 := by
  unfold Ld
  rw [show fl 0 14 = Finset.univ.filter (fun i : Fin 28 => i.val < 14) by decide,
    bigSep_fiberwise (Finset.univ.filter fun i : Fin 28 => i.val < 14) pk,
    show (Finset.univ.filter fun i : Fin 28 => i.val < 14).image pk = Finset.univ by decide]
  refine bigSep_congr fun k _ => ?_
  unfold barPay bufs
  rw [Finset.filter_filter]
  refine bigSep_congr fun i hi => ?_
  rw [(Finset.mem_filter.mp hi).2.2]

theorem go_bar (c : Dev nD) {s : Sem sig} (hs : s = barS) {a : ℕ} (ha : 7 = a)
    {kk : PUnit → Prog (TpuEff nD τ sig (Elt F) Λ₀ .tc) α} :
    ctx P ⊢ iprop(Ow c (owedB c 7) -∗ atPos ER (bC c) 0 ∅ 0 -∗ cred (tallyAt (bC c) () 7)
      -∗ (Ow c (owedFrom c 0) -∗ semVal (bC c) 0 -∗ Ld c 0 -∗ wp frame (wpE (defs₀ (F := F)) 𝒱₀ (c : Thread nD τ) none) Set.univ (kk ⟨⟩) Q)
      -∗ wp frame (wpE (defs₀ (F := F)) 𝒱₀ (c : Thread nD τ) none) Set.univ (.op (.semWait s a) kk) Q) := by
  subst hs ha
  unfold Ow
  rw [owedB_end]
  iintro #Hc ⟨%W, HO⟩ Hat Hcr Hk
  ihave HbC := (ctx_cell P (c, none)) $$ Hc
  icases HbC with ⟨%κ, #HI, -⟩
  iapply (Rounds.wp_wait_rest_token 𝒱₀ ER (sched P) (c : Thread nD τ) none (κ := κ)
      (wpE_semWait_eq 𝒱₀ (c : Thread nD τ) none Set.univ) (Set.mem_univ _) () (O := owedFrom c 0) (W := W) (R := 0) (m := 0) (T := ∅)
      (by rw [expect_bar])) $$ [Hcr HO Hat]
  · isplitr; · iexact HI
    isplitl [Hcr]; · iexact Hcr
    isplitl [HO]; · iexact HO
    isplitr; · iapply (ctx_from P c (.reg barS) 0 (by rw [lv_bC]; omega)); iexact Hc
    iexact Hat
  iintro ⟨HO, Hat, -, Hpay⟩
  ihave Hp := (Entails.of_eq ((rest_bar P c).trans (bufs_all c))) $$ Hpay
  imod (Rounds.cell_close ER (sched P) (Set.mem_univ κ) (fun h => h) (R := 0 + 1) (duties_later P (bC c))) $$ [Hat] with Hz
  · isplitr; · iexact HI
    iexact Hat
  iapply Hk $$ [HO] Hz Hp
  iexists _; iexact HO

end Rules

end Cert.Reduce

end
-- ==== Proof.Pieces.lean ====
/-
How a device's rows come apart and together again between the stages.
-/
module

public import proofs.«01_k».proof.Proof.Entry

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → WB F)

/-! ## Shares -/

/-- What a device keeps of rows it sends to three partners, and to one. -/
abbrev kq : PosShare TreeShare := fullShare.left.left
abbrev kh : PosShare TreeShare := fullShare.left

theorem wk_share (c : Dev nD) (lo n : ℕ) (q : PosShare TreeShare) (f : WB F) :
    (wk c lo n q f : sProp 𝕄) = iprop(wk c lo n q.left f ∗ wk c lo n q.right f) := by
  unfold wk
  exact BI.Entails.antisymm (pointsTo_share (PosShare.mem_left_op_right q)).1 (pointsTo_share (PosShare.mem_left_op_right q)).2

theorem wk_two (c : Dev nD) (lo n : ℕ) (f : WB F) :
    (wk c lo n fullShare f : sProp 𝕄) = iprop(wk c lo n kh f ∗ wk c lo n fullShare.right f) := wk_share c lo n _ f

theorem wk_four (c : Dev nD) (lo n : ℕ) (f : WB F) :
    (wk c lo n fullShare f : sProp 𝕄)
      = iprop(wk c lo n kq f ∗ wk c lo n fullShare.left.right f ∗ wk c lo n fullShare.right.left f ∗ wk c lo n fullShare.right.right f) := by
  rw [wk_share, wk_share c lo n fullShare.left, wk_share c lo n fullShare.right, sep_assoc_eq]

/-! ## The way in -/

theorem sp_all (c : Dev nD) :
    (wk c 0 1024 fullShare (P c) : sProp 𝕄)
      = iprop((wk c (a1 c) 256 fullShare (P c) ∗ Src P 0 c) ∗ wk c (b1 c) 128 fullShare (P c) ∗ Src P 1 c ∗ Src P 2 c ∗ Src P 3 c) := by
  have h1 := wk_halves c (halves_a c) fullShare (P c)
  have h2 := wk_quarters c (quarters_b1 c) fullShare (P c)
  exact (wk_add c 0 512 512 fullShare (P c)).trans (congrArg₂ BI.sep h1 h2)
theorem sp_a1 (c : Dev nD) :
    (wk c (a1 c) 256 fullShare (A1 P c) : sProp 𝕄) = iprop(wk c (a2 c) 64 fullShare (A1 P c) ∗ Src P 4 c ∗ Src P 5 c ∗ Src P 6 c) :=
  wk_quarters c (quarters_a2 c) fullShare (A1 P c)
theorem sp_b1 (c : Dev nD) :
    (wk c (b1 c) 128 fullShare (B1 P c) : sProp 𝕄) = iprop(wk c (b2 c) 32 fullShare (B1 P c) ∗ Src P 7 c ∗ Src P 8 c ∗ Src P 9 c) :=
  wk_quarters c (quarters_b2 c) fullShare (B1 P c)
theorem sp_a2 (c : Dev nD) :
    (wk c (a2 c) 64 fullShare (A2 P c) : sProp 𝕄) = iprop(wk c (a3 c) 16 fullShare (A2 P c) ∗ Src P 10 c ∗ Src P 11 c ∗ Src P 12 c) :=
  wk_quarters c (quarters_a3 c) fullShare (A2 P c)
theorem sp_b2 (c : Dev nD) :
    (wk c (b2 c) 32 fullShare (B2 P c) : sProp 𝕄) = iprop(wk c (b3 c) 16 fullShare (B2 P c) ∗ Src P 13 c) :=
  wk_halves c (halves_b c) fullShare (B2 P c)

/-! ## The way back: the summed rows, their shares -/

theorem sh_a3 (c : Dev nD) :
    (wk c (a3 c) 16 fullShare (A3 P c) : sProp 𝕄) = iprop(wk c (a3 c) 16 kq (fin P) ∗ Sr P 14 c ∗ Sr P 15 c ∗ Sr P 16 c) :=
  (wk_congr (fin_a P c)).trans (wk_four c (a3 c) 16 (fin P))
theorem sh_b3 (c : Dev nD) :
    (wk c (b3 c) 16 fullShare (B3 P c) : sProp 𝕄) = iprop(wk c (b3 c) 16 kh (fin P) ∗ Sr P 17 c) :=
  (wk_congr (fin_b P c)).trans (wk_two c (b3 c) 16 (fin P))
theorem sh_a2 (c : Dev nD) :
    (wk c (a2 c) 64 fullShare (fin P) : sProp 𝕄) = iprop(wk c (a2 c) 64 kq (fin P) ∗ Sr P 18 c ∗ Sr P 19 c ∗ Sr P 20 c) := wk_four c (a2 c) 64 (fin P)
theorem sh_b2 (c : Dev nD) :
    (wk c (b2 c) 32 fullShare (fin P) : sProp 𝕄) = iprop(wk c (b2 c) 32 kq (fin P) ∗ Sr P 21 c ∗ Sr P 22 c ∗ Sr P 23 c) := wk_four c (b2 c) 32 (fin P)
theorem sh_a1 (c : Dev nD) :
    (wk c (a1 c) 256 fullShare (fin P) : sProp 𝕄) = iprop(wk c (a1 c) 256 kh (fin P) ∗ Sr P 24 c) := wk_two c (a1 c) 256 (fin P)
theorem sh_b1 (c : Dev nD) :
    (wk c (b1 c) 128 fullShare (fin P) : sProp 𝕄) = iprop(wk c (b1 c) 128 kq (fin P) ∗ Sr P 25 c ∗ Sr P 26 c ∗ Sr P 27 c) := wk_four c (b1 c) 128 (fin P)

/-! ## and the larger range, once the partners' rows have come -/

theorem jn_a2 (c : Dev nD) :
    iprop((wk c (a3 c) 16 kq (fin P) ∗ Sr P 14 c ∗ Sr P 15 c ∗ Sr P 16 c) ∗ Gt P 14 c ∗ Gt P 15 c ∗ Gt P 16 c)
      = (wk c (a2 c) 64 fullShare (fin P) : sProp 𝕄) :=
  (congrArg (fun X => iprop(X ∗ Gt P 14 c ∗ Gt P 15 c ∗ Gt P 16 c)) (wk_four c (a3 c) 16 (fin P)).symm).trans
    (wk_quarters c (quarters_a3 c) fullShare (fin P)).symm
theorem jn_b2 (c : Dev nD) :
    iprop((wk c (b3 c) 16 kh (fin P) ∗ Sr P 17 c) ∗ Gt P 17 c) = (wk c (b2 c) 32 fullShare (fin P) : sProp 𝕄) :=
  (congrArg (fun X => iprop(X ∗ Gt P 17 c)) (wk_two c (b3 c) 16 (fin P)).symm).trans (wk_halves c (halves_b c) fullShare (fin P)).symm
theorem jn_a1 (c : Dev nD) :
    iprop((wk c (a2 c) 64 kq (fin P) ∗ Sr P 18 c ∗ Sr P 19 c ∗ Sr P 20 c) ∗ Gt P 18 c ∗ Gt P 19 c ∗ Gt P 20 c)
      = (wk c (a1 c) 256 fullShare (fin P) : sProp 𝕄) :=
  (congrArg (fun X => iprop(X ∗ Gt P 18 c ∗ Gt P 19 c ∗ Gt P 20 c)) (wk_four c (a2 c) 64 (fin P)).symm).trans
    (wk_quarters c (quarters_a2 c) fullShare (fin P)).symm
theorem jn_b1 (c : Dev nD) :
    iprop((wk c (b2 c) 32 kq (fin P) ∗ Sr P 21 c ∗ Sr P 22 c ∗ Sr P 23 c) ∗ Gt P 21 c ∗ Gt P 22 c ∗ Gt P 23 c)
      = (wk c (b1 c) 128 fullShare (fin P) : sProp 𝕄) :=
  (congrArg (fun X => iprop(X ∗ Gt P 21 c ∗ Gt P 22 c ∗ Gt P 23 c)) (wk_four c (b2 c) 32 (fin P)).symm).trans
    (wk_quarters c (quarters_b2 c) fullShare (fin P)).symm
theorem jn_all (c : Dev nD) :
    iprop(((wk c (a1 c) 256 kh (fin P) ∗ Sr P 24 c) ∗ Gt P 24 c)
        ∗ (wk c (b1 c) 128 kq (fin P) ∗ Sr P 25 c ∗ Sr P 26 c ∗ Sr P 27 c) ∗ Gt P 25 c ∗ Gt P 26 c ∗ Gt P 27 c)
      = (wk c 0 1024 fullShare (fin P) : sProp 𝕄) := by
  have h1 : iprop((wk c (a1 c) 256 kh (fin P) ∗ Sr P 24 c) ∗ Gt P 24 c) = (wk c 0 512 fullShare (fin P) : sProp 𝕄) :=
    (congrArg (fun X => iprop(X ∗ Gt P 24 c)) (wk_two c (a1 c) 256 (fin P)).symm).trans (wk_halves c (halves_a c) fullShare (fin P)).symm
  have h2 : iprop((wk c (b1 c) 128 kq (fin P) ∗ Sr P 25 c ∗ Sr P 26 c ∗ Sr P 27 c) ∗ Gt P 25 c ∗ Gt P 26 c ∗ Gt P 27 c)
      = (wk c 512 512 fullShare (fin P) : sProp 𝕄) :=
    (congrArg (fun X => iprop(X ∗ Gt P 25 c ∗ Gt P 26 c ∗ Gt P 27 c)) (wk_four c (b1 c) 128 (fin P)).symm).trans
      (wk_quarters c (quarters_b1 c) fullShare (fin P)).symm
  exact (congrArg₂ BI.sep h1 h2).trans (wk_add c 0 512 512 fullShare (fin P)).symm

end Cert.Reduce

end
-- ==== Proof.WayIn.lean ====
/-
The parts of the way in: the entry barrier and the fourteen copies that sum the blocks.
-/
module

public import proofs.«01_k».proof.Proof.Pieces

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → WB F)

theorem part3 (c : Dev nD) (w₁ w₂ w₃ w₄ w₅ w₆ w₇ w₈ : BitVec 32) (K) :
    ctx P ⊢ iprop(St c 0 0 -∗ Ld c 0 -∗ Src P 0 c -∗ Src P 1 c -∗ (∀ r, St c 2 0 -∗ Ld c 2 -∗ K r)
      -∗ wpb c (app k0_part3 c w₁ w₂ w₃ w₄ w₅ w₆ w₇ w₈) K) := by
  simp only [wpb, app, k0_part3_eq_skeleton]; unfold k0_part3_skel
  simp only [Prog.lift, Prog.bind_op, Prog.bind_ret, Prog.pure_eq_ret]
  iintro #Hc HS HL H0 H1 Hk
  iapply (go_rs P 0 (by decide) c 0 0 (cd 0 c) rfl (by decide) (cs 0 c) rfl rfl rfl) $$ Hc HS HL H0
  iintro HS HL
  iapply (go_rs P 1 (by decide) c 1 0 (cd 1 c) rfl (by decide) (cs 1 c) rfl rfl rfl) $$ Hc HS HL H1
  iintro HS HL
  rw [wp_ret]; imodintro
  iapply Hk $$ %_ HS HL

theorem part4 (c : Dev nD) (w₁ w₂ w₃ w₄ w₅ w₆ : BitVec 32) (K) :
    ctx P ⊢ iprop(St c 2 0 -∗ Ld c 2 -∗ Bk c 0 -∗ Src P 2 c -∗ Src P 3 c -∗ wk c (a1 c) 256 fullShare (P c)
      -∗ (∀ r, St c 4 1 -∗ Ld c 4 -∗ Bk c 1 -∗ Dn 0 c -∗ wk c (a2 c) 64 fullShare (A1 P c) -∗ Src P 4 c -∗ Src P 5 c -∗ Src P 6 c -∗ K r)
      -∗ wpb c (app k0_part4 c w₁ w₂ w₃ w₄ w₅ w₆) K) := by
  simp only [wpb, app, k0_part4_eq_skeleton]; unfold k0_part4_skel
  simp only [Prog.lift, Prog.bind_op, Prog.bind_ret, Prog.pure_eq_ret]
  iintro #Hc HS HL HB H2 H3 HA Hk
  iapply (go_rs P 2 (by decide) c 2 0 (cd 2 c) rfl (by decide) (cs 2 c) rfl rfl rfl) $$ Hc HS HL H2
  iintro HS HL
  iapply (go_rs P 3 (by decide) c 3 0 (cd 3 c) rfl (by decide) (cs 3 c) rfl rfl rfl) $$ Hc HS HL H3
  iintro HS HL
  iapply (go_ws_rs P 0 (by decide) c 4 0 rfl (by decide) rfl (cs 0 c)) $$ Hc HS
  iintro HS
  iapply (go_wr_rs P 0 (by decide) c 4 0 rfl (by decide) rfl rfl) $$ Hc HS
  iintro HS Hb Hd
  iapply (wp_ldw c (lo := a1 c) (n := 256) (lo' := a1 c) (n' := 256) (kLo_inb 0 c) (koff_eq 0 c) le_rfl le_rfl) $$ HA
  iintro HA
  iapply (go_ldb P 0 (by decide) c 0 rfl rfl) $$ Hb HB
  iintro HB
  iapply (wp_stw c (lo := a1 c) (n := 256) (g := A1 P c) (kLo_inb 0 c) (koff_eq 0 c) (pay4_rd (kLo_inb 0 c) (P c) (P (par 0 c)))) $$ HA
  iintro HA
  ihave ⟨HA, H4, H5, H6⟩ := (Entails.of_eq (sp_a1 P c)) $$ HA
  rw [wp_ret]; imodintro
  iapply Hk $$ %_ HS HL HB Hd HA H4 H5 H6

theorem part5 (c : Dev nD) (w₁ w₂ w₃ w₄ w₅ w₆ : BitVec 32) (K) :
    ctx P ⊢ iprop(St c 4 1 -∗ Ld c 4 -∗ Src P 4 c -∗ Src P 5 c -∗ (∀ r, St c 6 1 -∗ Ld c 6 -∗ K r)
      -∗ wpb c (app k0_part5 c w₁ w₂ w₃ w₄ w₅ w₆) K) := by
  simp only [wpb, app, k0_part5_eq_skeleton]; unfold k0_part5_skel
  simp only [Prog.lift, Prog.bind_op, Prog.bind_ret, Prog.pure_eq_ret]
  iintro #Hc HS HL H4 H5 Hk
  iapply (go_rs P 4 (by decide) c 4 1 (cd 4 c) rfl (by decide) (cs 4 c) rfl rfl rfl) $$ Hc HS HL H4
  iintro HS HL
  iapply (go_rs P 5 (by decide) c 5 1 (cd 5 c) rfl (by decide) (cs 5 c) rfl rfl rfl) $$ Hc HS HL H5
  iintro HS HL
  rw [wp_ret]; imodintro
  iapply Hk $$ %_ HS HL

theorem part6 (c : Dev nD) (w₁ w₂ w₃ : BitVec 32) (K) :
    ctx P ⊢ iprop(St c 6 1 -∗ Ld c 6 -∗ Src P 6 c
      -∗ (∀ r, Sw c 7 3 -∗ Ld c 7 -∗ Lb P 1 c -∗ Lb P 2 c -∗ Dn 1 c -∗ Dn 2 c -∗ K r)
      -∗ wpb c (app k0_part6 c w₁ w₂ w₃) K) := by
  simp only [wpb, app, k0_part6_eq_skeleton]; unfold k0_part6_skel
  simp only [Prog.lift, Prog.bind_op, Prog.bind_ret, Prog.pure_eq_ret]
  iintro #Hc HS HL H6 Hk
  iapply (go_rs P 6 (by decide) c 6 1 (cd 6 c) rfl (by decide) (cs 6 c) rfl rfl rfl) $$ Hc HS HL H6
  iintro HS HL
  iapply (go_ws_rs P 1 (by decide) c 7 1 rfl (by decide) rfl (cs 1 c)) $$ Hc HS
  iintro HS
  iapply (go_wr_rs P 1 (by decide) c 7 1 rfl (by decide) rfl rfl) $$ Hc HS
  iintro HS Hb1 Hd1
  iapply (go_ws_rs P 2 (by decide) c 7 2 rfl (by decide) rfl (cs 2 c)) $$ Hc HS
  iintro HS
  iapply (go_wr_rs P 2 (by decide) c 7 2 rfl (by decide) rfl rfl) $$ Hc HS
  iintro HS Hb2 Hd2
  iapply (go_ws_rs P 3 (by decide) c 7 3 rfl (by decide) rfl (cs 3 c)) $$ Hc HS
  iintro HS
  rw [wp_ret]; imodintro
  iapply Hk $$ %_ HS HL Hb1 Hb2 Hd1 Hd2

theorem part7 (c : Dev nD) (w₁ w₂ w₃ w₄ w₅ : BitVec 32) (K) :
    ctx P ⊢ iprop(Sw c 7 3 -∗ Ld c 7 -∗ Bk c 1 -∗ Lb P 1 c -∗ Lb P 2 c -∗ wk c (b1 c) 128 fullShare (P c)
      -∗ (∀ r, St c 8 4 -∗ Ld c 8 -∗ Bk c 4 -∗ Dn 3 c -∗ wk c (b2 c) 32 fullShare (B1 P c) -∗ Src P 8 c -∗ Src P 9 c -∗ K r)
      -∗ wpb c (app k0_part7 c w₁ w₂ w₃ w₄ w₅) K) := by
  simp only [wpb, app, k0_part7_eq_skeleton]; unfold k0_part7_skel
  simp only [Prog.lift, Prog.bind_op, Prog.bind_ret, Prog.pure_eq_ret]
  iintro #Hc HS HL HB Hb1 Hb2 HW Hk
  iapply (go_wr_rs P 3 (by decide) c 7 3 rfl (by decide) rfl rfl) $$ Hc HS
  iintro HS Hb3 Hd
  iapply (wp_ldw c (lo := b1 c) (n := 128) (lo' := b1 c) (n' := 128) (kLo_inb 1 c) (koff_eq 1 c) le_rfl le_rfl) $$ HW
  iintro HW
  iapply (go_ldb P 1 (by decide) c 1 rfl rfl) $$ Hb1 HB
  iintro HB
  iapply (go_ldb P 2 (by decide) c 2 rfl rfl) $$ Hb2 HB
  iintro HB
  iapply (go_ldb P 3 (by decide) c 3 rfl rfl) $$ Hb3 HB
  iintro HB
  iapply (wp_stw c (lo := b1 c) (n := 128) (g := B1 P c) (kLo_inb 1 c) (koff_eq 1 c)
    (pay5_rd (kLo_inb 1 c) (P c) (P (par 1 c)) (P (par 2 c)) (P (par 3 c)))) $$ HW
  iintro HW
  ihave ⟨HW, H7, H8, H9⟩ := (Entails.of_eq (sp_b1 P c)) $$ HW
  iapply (go_rs P 7 (by decide) c 7 4 (cd 7 c) rfl (by decide) (cs 7 c) rfl rfl rfl) $$ Hc HS HL H7
  iintro HS HL
  rw [wp_ret]; imodintro
  iapply Hk $$ %_ HS HL HB Hd HW H8 H9

theorem part8 (c : Dev nD) (w₁ w₂ w₃ w₄ w₅ : BitVec 32) (K) :
    ctx P ⊢ iprop(St c 8 4 -∗ Ld c 8 -∗ Src P 8 c -∗ Src P 9 c
      -∗ (∀ r, Sw c 10 5 -∗ Ld c 10 -∗ Lb P 4 c -∗ Dn 4 c -∗ K r)
      -∗ wpb c (app k0_part8 c w₁ w₂ w₃ w₄ w₅) K) := by
  simp only [wpb, app, k0_part8_eq_skeleton]; unfold k0_part8_skel
  simp only [Prog.lift, Prog.bind_op, Prog.bind_ret, Prog.pure_eq_ret]
  iintro #Hc HS HL H8 H9 Hk
  iapply (go_rs P 8 (by decide) c 8 4 (cd 8 c) rfl (by decide) (cs 8 c) rfl rfl rfl) $$ Hc HS HL H8
  iintro HS HL
  iapply (go_rs P 9 (by decide) c 9 4 (cd 9 c) rfl (by decide) (cs 9 c) rfl rfl rfl) $$ Hc HS HL H9
  iintro HS HL
  iapply (go_ws_rs P 4 (by decide) c 10 4 rfl (by decide) rfl (cs 4 c)) $$ Hc HS
  iintro HS
  iapply (go_wr_rs P 4 (by decide) c 10 4 rfl (by decide) rfl rfl) $$ Hc HS
  iintro HS Hb4 Hd4
  iapply (go_ws_rs P 5 (by decide) c 10 5 rfl (by decide) rfl (cs 5 c)) $$ Hc HS
  iintro HS
  rw [wp_ret]; imodintro
  iapply Hk $$ %_ HS HL Hb4 Hd4

theorem part9 (c : Dev nD) (w₁ w₂ w₃ w₄ : BitVec 32) (K) :
    ctx P ⊢ iprop(Sw c 10 5 -∗ Bk c 4 -∗ Lb P 4 c -∗ wk c (a2 c) 64 fullShare (A1 P c)
      -∗ (∀ r, St c 10 7 -∗ Bk c 7 -∗ Dn 5 c -∗ Dn 6 c -∗ wk c (a3 c) 16 fullShare (A2 P c) -∗ Src P 10 c -∗ Src P 11 c -∗ Src P 12 c -∗ K r)
      -∗ wpb c (app k0_part9 c w₁ w₂ w₃ w₄) K) := by
  simp only [wpb, app, k0_part9_eq_skeleton]; unfold k0_part9_skel
  simp only [Prog.lift, Prog.bind_op, Prog.bind_ret, Prog.pure_eq_ret]
  iintro #Hc HS HB Hb4 HW Hk
  iapply (go_wr_rs P 5 (by decide) c 10 5 rfl (by decide) rfl rfl) $$ Hc HS
  iintro HS Hb5 Hd5
  iapply (go_ws_rs P 6 (by decide) c 10 6 rfl (by decide) rfl (cs 6 c)) $$ Hc HS
  iintro HS
  iapply (go_wr_rs P 6 (by decide) c 10 6 rfl (by decide) rfl rfl) $$ Hc HS
  iintro HS Hb6 Hd6
  iapply (wp_ldw c (lo := a2 c) (n := 64) (lo' := a2 c) (n' := 64) (kLo_inb 4 c) (koff_eq 2 c) le_rfl le_rfl) $$ HW
  iintro HW
  iapply (go_ldb P 4 (by decide) c 4 rfl rfl) $$ Hb4 HB
  iintro HB
  iapply (go_ldb P 5 (by decide) c 5 rfl rfl) $$ Hb5 HB
  iintro HB
  iapply (go_ldb P 6 (by decide) c 6 rfl rfl) $$ Hb6 HB
  iintro HB
  iapply (wp_stw c (lo := a2 c) (n := 64) (g := A2 P c) (kLo_inb 4 c) (koff_eq 2 c)
    (pay6_rd (kLo_inb 4 c) (A1 P c) (A1 P (par 1 c)) (A1 P (par 2 c)) (A1 P (par 3 c)))) $$ HW
  iintro HW
  ihave ⟨HW, H10, H11, H12⟩ := (Entails.of_eq (sp_a2 P c)) $$ HW
  rw [wp_ret]; imodintro
  iapply Hk $$ %_ HS HB Hd5 Hd6 HW H10 H11 H12

theorem part10 (c : Dev nD) (w₁ w₂ w₃ w₄ w₅ w₆ : BitVec 32) (K) :
    ctx P ⊢ iprop(St c 10 7 -∗ Ld c 10 -∗ Src P 10 c -∗ Src P 11 c -∗ Src P 12 c
      -∗ (∀ r, Sw c 13 7 -∗ Ld c 13 -∗ K r)
      -∗ wpb c (app k0_part10 c w₁ w₂ w₃ w₄ w₅ w₆) K) := by
  simp only [wpb, app, k0_part10_eq_skeleton]; unfold k0_part10_skel
  simp only [Prog.lift, Prog.bind_op, Prog.bind_ret, Prog.pure_eq_ret]
  iintro #Hc HS HL H10 H11 H12 Hk
  iapply (go_rs P 10 (by decide) c 10 7 (cd 10 c) rfl (by decide) (cs 10 c) rfl rfl rfl) $$ Hc HS HL H10
  iintro HS HL
  iapply (go_rs P 11 (by decide) c 11 7 (cd 11 c) rfl (by decide) (cs 11 c) rfl rfl rfl) $$ Hc HS HL H11
  iintro HS HL
  iapply (go_rs P 12 (by decide) c 12 7 (cd 12 c) rfl (by decide) (cs 12 c) rfl rfl rfl) $$ Hc HS HL H12
  iintro HS HL
  iapply (go_ws_rs P 7 (by decide) c 13 7 rfl (by decide) rfl (cs 7 c)) $$ Hc HS
  iintro HS
  rw [wp_ret]; imodintro
  iapply Hk $$ %_ HS HL

theorem part11 (c : Dev nD) (w₁ w₂ w₃ w₄ : BitVec 32) (K) :
    ctx P ⊢ iprop(Sw c 13 7 -∗ Bk c 7 -∗ wk c (b2 c) 32 fullShare (B1 P c)
      -∗ (∀ r, ⌜k0_pay8 r = rd (b2 c) 32 (kLo_inb 7 c) (B2 P c)⌝ -∗ St c 13 10 -∗ Bk c 10 -∗ Dn 7 c -∗ Dn 8 c -∗ Dn 9 c
        -∗ wk c (b2 c) 32 fullShare (B1 P c) -∗ K r)
      -∗ wpb c (app k0_part11 c w₁ w₂ w₃ w₄) K) := by
  simp only [wpb, app, k0_part11_eq_skeleton]; unfold k0_part11_skel
  simp only [Prog.lift, Prog.bind_op, Prog.bind_ret, Prog.pure_eq_ret]
  iintro #Hc HS HB HW Hk
  iapply (go_wr_rs P 7 (by decide) c 13 7 rfl (by decide) rfl rfl) $$ Hc HS
  iintro HS Hb7 Hd7
  iapply (go_ws_rs P 8 (by decide) c 13 8 rfl (by decide) rfl (cs 8 c)) $$ Hc HS
  iintro HS
  iapply (go_wr_rs P 8 (by decide) c 13 8 rfl (by decide) rfl rfl) $$ Hc HS
  iintro HS Hb8 Hd8
  iapply (go_ws_rs P 9 (by decide) c 13 9 rfl (by decide) rfl (cs 9 c)) $$ Hc HS
  iintro HS
  iapply (go_wr_rs P 9 (by decide) c 13 9 rfl (by decide) rfl rfl) $$ Hc HS
  iintro HS Hb9 Hd9
  iapply (wp_ldw c (lo := b2 c) (n := 32) (lo' := b2 c) (n' := 32) (kLo_inb 7 c) (koff_eq 3 c) le_rfl le_rfl) $$ HW
  iintro HW
  iapply (go_ldb P 7 (by decide) c 7 rfl rfl) $$ Hb7 HB
  iintro HB
  iapply (go_ldb P 8 (by decide) c 8 rfl rfl) $$ Hb8 HB
  iintro HB
  iapply (go_ldb P 9 (by decide) c 9 rfl rfl) $$ Hb9 HB
  iintro HB
  rw [wp_ret]; imodintro
  iapply Hk $$ %_ [] HS HB Hd7 Hd8 Hd9 HW
  ipureintro
  exact pay7_rd (kLo_inb 7 c) (B1 P c) (B1 P (par 4 c)) (B1 P (par 5 c)) (B1 P (par 6 c))

theorem part12 (c : Dev nD) (w₁ w₂ w₃ w₄ w₅ : BitVec 32) (v : FVec F S32x1024 .bf16)
    (hv : k0_pay8 v = rd (b2 c) 32 (kLo_inb 7 c) (B2 P c)) (K) :
    ctx P ⊢ iprop(St c 13 10 -∗ Ld c 13 -∗ wk c (b2 c) 32 fullShare (B1 P c)
      -∗ (∀ r, Sw c 14 11 -∗ Lb P 10 c -∗ Dn 10 c -∗ wk c (b3 c) 16 fullShare (B2 P c) -∗ K r)
      -∗ wpb c (app k0_part12 c w₁ w₂ w₃ w₄ w₅ v) K) := by
  simp only [wpb, app, k0_part12_eq_skeleton]; unfold k0_part12_skel
  simp only [Prog.lift, Prog.bind_op, Prog.bind_ret, Prog.pure_eq_ret]
  iintro #Hc HS HL HW Hk
  iapply (wp_stw c (lo := b2 c) (n := 32) (g := B2 P c) (kLo_inb 7 c) (koff_eq 3 c) hv) $$ HW
  iintro HW
  ihave ⟨HW, H13⟩ := (Entails.of_eq (sp_b2 P c)) $$ HW
  iapply (go_rs P 13 (by decide) c 13 10 (cd 13 c) rfl (by decide) (cs 13 c) rfl rfl rfl) $$ Hc HS HL H13
  iintro HS -
  iapply (go_ws_rs P 10 (by decide) c 14 10 rfl (by decide) rfl (cs 10 c)) $$ Hc HS
  iintro HS
  iapply (go_wr_rs P 10 (by decide) c 14 10 rfl (by decide) rfl rfl) $$ Hc HS
  iintro HS Hb10 Hd10
  iapply (go_ws_rs P 11 (by decide) c 14 11 rfl (by decide) rfl (cs 11 c)) $$ Hc HS
  iintro HS
  rw [wp_ret]; imodintro
  iapply Hk $$ %_ HS Hb10 Hd10 HW

theorem part13 (c : Dev nD) (w₁ w₂ w₃ w₄ : BitVec 32) (K) :
    ctx P ⊢ iprop(Sw c 14 11 -∗ Bk c 10 -∗ Lb P 10 c -∗ wk c (a3 c) 16 fullShare (A2 P c)
      -∗ (∀ r, Sw c 14 13 -∗ Bk c 13 -∗ Dn 11 c -∗ Dn 12 c -∗ wk c (a3 c) 16 fullShare (A3 P c) -∗ K r)
      -∗ wpb c (app k0_part13 c w₁ w₂ w₃ w₄) K) := by
  simp only [wpb, app, k0_part13_eq_skeleton]; unfold k0_part13_skel
  simp only [Prog.lift, Prog.bind_op, Prog.bind_ret, Prog.pure_eq_ret]
  iintro #Hc HS HB Hb10 HW Hk
  iapply (go_wr_rs P 11 (by decide) c 14 11 rfl (by decide) rfl rfl) $$ Hc HS
  iintro HS Hb11 Hd11
  iapply (go_ws_rs P 12 (by decide) c 14 12 rfl (by decide) rfl (cs 12 c)) $$ Hc HS
  iintro HS
  iapply (go_wr_rs P 12 (by decide) c 14 12 rfl (by decide) rfl rfl) $$ Hc HS
  iintro HS Hb12 Hd12
  iapply (wp_ldw c (lo := a3 c) (n := 16) (lo' := a3 c) (n' := 16) (kLo_inb 10 c) (koff_eq 4 c) le_rfl le_rfl) $$ HW
  iintro HW
  iapply (go_ldb P 10 (by decide) c 10 rfl rfl) $$ Hb10 HB
  iintro HB
  iapply (go_ldb P 11 (by decide) c 11 rfl rfl) $$ Hb11 HB
  iintro HB
  iapply (go_ldb P 12 (by decide) c 12 rfl rfl) $$ Hb12 HB
  iintro HB
  iapply (wp_stw c (lo := a3 c) (n := 16) (g := A3 P c) (kLo_inb 10 c) (koff_eq 4 c)
    (pay9_rd (kLo_inb 10 c) (A2 P c) (A2 P (par 4 c)) (A2 P (par 5 c)) (A2 P (par 6 c)))) $$ HW
  iintro HW
  iapply (go_ws_rs P 13 (by decide) c 14 13 rfl (by decide) rfl (cs 13 c)) $$ Hc HS
  iintro HS
  rw [wp_ret]; imodintro
  iapply Hk $$ %_ HS HB Hd11 Hd12 HW

end Cert.Reduce

end
-- ==== Proof.WayBack.lean ====
/-
The parts of the way back: the fourteen copies that return the summed rows, and their conversion into the result.
-/
module

public import proofs.«01_k».proof.Proof.Pieces

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → WB F)

theorem Halves.sub {b n k o : ℕ} (h : Halves b n k o) : b ≤ o ∧ o + n ≤ b + 2 * n := by unfold Halves at h; omega
theorem Quarters.sub {b n k o o' o'' : ℕ} (h : Quarters b n k o o' o'') :
    (b ≤ o ∧ o + n ≤ b + 4 * n) ∧ (b ≤ o' ∧ o' + n ≤ b + 4 * n) ∧ (b ≤ o'' ∧ o'' + n ≤ b + 4 * n) := by unfold Quarters at h; omega

/-- The ranges converted after each of the four rounds of conversion. -/
abbrev cv1 (c : Dev nD) : List (ℕ × ℕ) := [(b3 c, 16), (a3 c, 16)]
abbrev cv2 (c : Dev nD) : List (ℕ × ℕ) := (oLo 13 c, 16) :: (oLo 12 c, 16) :: (oLo 11 c, 16) :: (oLo 10 c, 16) :: cv1 c
abbrev cv3 (c : Dev nD) : List (ℕ × ℕ) :=
  (oLo 9 c, 32) :: (oLo 8 c, 32) :: (oLo 7 c, 32) :: (oLo 6 c, 64) :: (oLo 5 c, 64) :: (oLo 4 c, 64) :: cv2 c
abbrev cv4 (c : Dev nD) : List (ℕ × ℕ) := (oLo 1 c, 128) :: (oLo 0 c, 256) :: cv3 c

theorem part14 (c : Dev nD) (w₁ w₂ w₃ w₄ w₅ w₆ w₇ w₈ : BitVec 32) (K) :
    ctx P ⊢ iprop(Sw c 14 13 -∗ Bk c 13 -∗ wk c (b3 c) 16 fullShare (B2 P c) -∗ wk c (a3 c) 16 fullShare (A3 P c) -∗ Dn 14 c -∗ Dn 15 c
      -∗ (∀ r, St c 16 14 -∗ Bk c 14 -∗ Dn 13 c -∗ wk c (b3 c) 16 kh (fin P) -∗ Sr P 17 c -∗ wk c (a3 c) 16 kq (fin P) -∗ Sr P 16 c -∗ K r)
      -∗ wpb c (app k0_part14 c w₁ w₂ w₃ w₄ w₅ w₆ w₇ w₈) K) := by
  simp only [wpb, app, k0_part14_eq_skeleton]; unfold k0_part14_skel
  simp only [Prog.lift, Prog.bind_op, Prog.bind_ret, Prog.pure_eq_ret]
  iintro #Hc HS HB HW HV Hd14 Hd15 Hk
  iapply (go_wr_rs P 13 (by decide) c 14 13 rfl (by decide) rfl rfl) $$ Hc HS
  iintro HS Hb Hd13
  iapply (wp_ldw c (lo := b3 c) (n := 16) (lo' := b3 c) (n' := 16) (kLo_inb 13 c) (koff_eq 5 c) le_rfl le_rfl) $$ HW
  iintro HW
  iapply (go_ldb P 13 (by decide) c 13 rfl rfl) $$ Hb HB
  iintro HB
  iapply (wp_stw c (lo := b3 c) (n := 16) (g := B3 P c) (kLo_inb 13 c) (koff_eq 5 c) (pay10_rd (kLo_inb 13 c) (B2 P c) (B2 P (par 0 c)))) $$ HW
  iintro HW
  ihave ⟨HW, H17⟩ := (Entails.of_eq (sh_b3 P c)) $$ HW
  ihave ⟨HV, H14, H15, H16⟩ := (Entails.of_eq (sh_a3 P c)) $$ HV
  iapply (go_ag P 14 (by decide) c 14 14 (cd 14 c) rfl (by decide) (cs 14 c) (cs 14 c) rfl rfl) $$ Hc HS H14 Hd14
  iintro HS
  iapply (go_ag P 15 (by decide) c 15 14 (cd 15 c) rfl (by decide) (cs 15 c) (cs 15 c) rfl rfl) $$ Hc HS H15 Hd15
  iintro HS
  rw [wp_ret]; imodintro
  iapply Hk $$ %_ HS HB Hd13 HW H17 HV H16

theorem part15 (c : Dev nD) (w₁ w₂ w₃ w₄ w₅ w₆ w₇ : BitVec 32) (K) :
    ctx P ⊢ iprop(St c 16 14 -∗ Sr P 16 c -∗ Dn 16 c -∗ Sr P 17 c -∗ Dn 17 c -∗ (∀ r, St c 18 14 -∗ K r)
      -∗ wpb c (app k0_part15 c w₁ w₂ w₃ w₄ w₅ w₆ w₇) K) := by
  simp only [wpb, app, k0_part15_eq_skeleton]; unfold k0_part15_skel
  simp only [Prog.lift, Prog.bind_op, Prog.bind_ret, Prog.pure_eq_ret]
  iintro #Hc HS H16 Hd16 H17 Hd17 Hk
  iapply (go_ag P 16 (by decide) c 16 14 (cd 16 c) rfl (by decide) (cs 16 c) (cs 16 c) rfl rfl) $$ Hc HS H16 Hd16
  iintro HS
  iapply (go_ag P 17 (by decide) c 17 14 (cd 17 c) rfl (by decide) (cs 17 c) (cs 17 c) rfl rfl) $$ Hc HS H17 Hd17
  iintro HS
  rw [wp_ret]; imodintro
  iapply Hk $$ %_ HS

theorem part16 (c : Dev nD) (w₁ w₂ w₃ w₄ w₅ w₆ : BitVec 32) (K) :
    ctx P ⊢ iprop(St c 18 14 -∗ Out P c [] -∗ wk c (a3 c) 16 kq (fin P) -∗ wk c (b3 c) 16 kh (fin P)
      -∗ (∀ r, Sw c 18 15 -∗ Out P c (cv1 c) -∗ wk c (a3 c) 16 kq (fin P) -∗ wk c (b3 c) 16 kh (fin P) -∗ Sr P 14 c -∗ Gt P 14 c -∗ Sr P 15 c -∗ K r)
      -∗ wpb c (app k0_part16 c w₁ w₂ w₃ w₄ w₅ w₆) K) := by
  simp only [wpb, app, k0_part16_eq_skeleton]; unfold k0_part16_skel
  simp only [Prog.lift, Prog.bind_op, Prog.bind_ret, Prog.pure_eq_ret]
  iintro #Hc HS HO HV HW Hk
  iapply (wp_ldw c (lo := a3 c) (n := 16) (lo' := a3 c) (n' := 16) (kLo_inb 10 c) (koff_eq 4 c) le_rfl le_rfl) $$ HV
  iintro HV
  iapply (wp_out P c (lo := a3 c) (n := 16) (kLo_inb 10 c) (koff_eq 4 c) rfl) $$ HO
  iintro HO
  iapply (wp_ldw c (lo := b3 c) (n := 16) (lo' := b3 c) (n' := 16) (kLo_inb 13 c) (koff_eq 5 c) le_rfl le_rfl) $$ HW
  iintro HW
  iapply (wp_out P c (lo := b3 c) (n := 16) (kLo_inb 13 c) (koff_eq 5 c) rfl) $$ HO
  iintro HO
  iapply (go_ws_ag P 14 (by decide) c 18 14 rfl (by decide) rfl (cs 14 c)) $$ Hc HS
  iintro HS H14
  iapply (go_wr_ag P 14 (by decide) c 18 14 rfl (by decide) rfl (cs 14 c)) $$ Hc HS
  iintro HS Hg14
  iapply (go_ws_ag P 15 (by decide) c 18 15 rfl (by decide) rfl (cs 15 c)) $$ Hc HS
  iintro HS H15
  rw [wp_ret]; imodintro
  iapply Hk $$ %_ HS HO HV HW H14 Hg14 H15

theorem part17 (c : Dev nD) (w₁ w₂ w₃ w₄ w₅ w₆ : BitVec 32) (K) :
    ctx P ⊢ iprop(Sw c 18 15 -∗ wk c (a3 c) 16 kq (fin P) -∗ Sr P 14 c -∗ Gt P 14 c -∗ Sr P 15 c -∗ Dn 18 c
      -∗ (∀ r, St c 19 17 -∗ wk c (a2 c) 64 kq (fin P) -∗ Sr P 19 c -∗ Sr P 20 c -∗ K r)
      -∗ wpb c (app k0_part17 c w₁ w₂ w₃ w₄ w₅ w₆) K) := by
  simp only [wpb, app, k0_part17_eq_skeleton]; unfold k0_part17_skel
  simp only [Prog.lift, Prog.bind_op, Prog.bind_ret, Prog.pure_eq_ret]
  iintro #Hc HS HV H14 Hg14 H15 Hd18 Hk
  iapply (go_wr_ag P 15 (by decide) c 18 15 rfl (by decide) rfl (cs 15 c)) $$ Hc HS
  iintro HS Hg15
  iapply (go_ws_ag P 16 (by decide) c 18 16 rfl (by decide) rfl (cs 16 c)) $$ Hc HS
  iintro HS H16
  iapply (go_wr_ag P 16 (by decide) c 18 16 rfl (by decide) rfl (cs 16 c)) $$ Hc HS
  iintro HS Hg16
  ihave HV := (Entails.of_eq (jn_a2 P c)) $$ [$HV $H14 $H15 $H16 $Hg14 $Hg15 $Hg16]
  ihave ⟨HV, H18, H19, H20⟩ := (Entails.of_eq (sh_a2 P c)) $$ HV
  iapply (go_ag P 18 (by decide) c 18 17 (cd 18 c) rfl (by decide) (cs 18 c) (cs 18 c) rfl rfl) $$ Hc HS H18 Hd18
  iintro HS
  rw [wp_ret]; imodintro
  iapply Hk $$ %_ HS HV H19 H20

theorem part18 (c : Dev nD) (w₁ w₂ w₃ w₄ w₅ : BitVec 32) (K) :
    ctx P ⊢ iprop(St c 19 17 -∗ Sr P 19 c -∗ Dn 19 c -∗ Sr P 20 c -∗ Dn 20 c -∗ (∀ r, Sw c 21 17 -∗ Sr P 17 c -∗ K r)
      -∗ wpb c (app k0_part18 c w₁ w₂ w₃ w₄ w₅) K) := by
  simp only [wpb, app, k0_part18_eq_skeleton]; unfold k0_part18_skel
  simp only [Prog.lift, Prog.bind_op, Prog.bind_ret, Prog.pure_eq_ret]
  iintro #Hc HS H19 Hd19 H20 Hd20 Hk
  iapply (go_ag P 19 (by decide) c 19 17 (cd 19 c) rfl (by decide) (cs 19 c) (cs 19 c) rfl rfl) $$ Hc HS H19 Hd19
  iintro HS
  iapply (go_ag P 20 (by decide) c 20 17 (cd 20 c) rfl (by decide) (cs 20 c) (cs 20 c) rfl rfl) $$ Hc HS H20 Hd20
  iintro HS
  iapply (go_ws_ag P 17 (by decide) c 21 17 rfl (by decide) rfl (cs 17 c)) $$ Hc HS
  iintro HS H17
  rw [wp_ret]; imodintro
  iapply Hk $$ %_ HS H17

theorem part19 (c : Dev nD) (w₁ w₂ w₃ w₄ w₅ w₆ : BitVec 32) (K) :
    ctx P ⊢ iprop(Sw c 21 17 -∗ Sr P 17 c -∗ wk c (b3 c) 16 kh (fin P) -∗ Dn 21 c -∗ Dn 22 c
      -∗ (∀ r, St c 23 18 -∗ wk c (b2 c) 32 kq (fin P) -∗ Sr P 23 c -∗ K r)
      -∗ wpb c (app k0_part19 c w₁ w₂ w₃ w₄ w₅ w₆) K) := by
  simp only [wpb, app, k0_part19_eq_skeleton]; unfold k0_part19_skel
  simp only [Prog.lift, Prog.bind_op, Prog.bind_ret, Prog.pure_eq_ret]
  iintro #Hc HS H17 HW Hd21 Hd22 Hk
  iapply (go_wr_ag P 17 (by decide) c 21 17 rfl (by decide) rfl (cs 17 c)) $$ Hc HS
  iintro HS Hg17
  ihave HW := (Entails.of_eq (jn_b2 P c)) $$ [$HW $H17 $Hg17]
  ihave ⟨HW, H21, H22, H23⟩ := (Entails.of_eq (sh_b2 P c)) $$ HW
  iapply (go_ag P 21 (by decide) c 21 18 (cd 21 c) rfl (by decide) (cs 21 c) (cs 21 c) rfl rfl) $$ Hc HS H21 Hd21
  iintro HS
  iapply (go_ag P 22 (by decide) c 22 18 (cd 22 c) rfl (by decide) (cs 22 c) (cs 22 c) rfl rfl) $$ Hc HS H22 Hd22
  iintro HS
  rw [wp_ret]; imodintro
  iapply Hk $$ %_ HS HW H23

theorem part20 (c : Dev nD) (w₁ w₂ w₃ w₄ w₅ w₆ : BitVec 32) (K) :
    ctx P ⊢ iprop(St c 23 18 -∗ Sr P 23 c -∗ Dn 23 c -∗ Out P c (cv1 c) -∗ wk c (a2 c) 64 kq (fin P) -∗ wk c (b2 c) 32 kq (fin P)
      -∗ (∀ r, St c 24 18 -∗ Out P c (cv2 c) -∗ wk c (a2 c) 64 kq (fin P) -∗ wk c (b2 c) 32 kq (fin P) -∗ K r)
      -∗ wpb c (app k0_part20 c w₁ w₂ w₃ w₄ w₅ w₆) K) := by
  simp only [wpb, app, k0_part20_eq_skeleton]; unfold k0_part20_skel
  simp only [Prog.lift, Prog.bind_op, Prog.bind_ret, Prog.pure_eq_ret]
  obtain ⟨⟨h1, h1'⟩, ⟨h2, h2'⟩, h3, h3'⟩ := (quarters_a3 c).sub
  obtain ⟨h4, h4'⟩ := (halves_b c).sub
  iintro #Hc HS H23 Hd23 HO HV HW Hk
  iapply (go_ag P 23 (by decide) c 23 18 (cd 23 c) rfl (by decide) (cs 23 c) (cs 23 c) rfl rfl) $$ Hc HS H23 Hd23
  iintro HS
  iapply (wp_ldw c (lo := oLo 10 c) (n := 16) (lo' := a2 c) (n' := 64) (oLo_inb 10 c) (ooff_eq 10 c) h1 h1') $$ HV
  iintro HV
  iapply (wp_out P c (lo := oLo 10 c) (n := 16) (oLo_inb 10 c) (ooff_eq 10 c) rfl) $$ HO
  iintro HO
  iapply (wp_ldw c (lo := oLo 11 c) (n := 16) (lo' := a2 c) (n' := 64) (oLo_inb 11 c) (ooff_eq 11 c) h2 h2') $$ HV
  iintro HV
  iapply (wp_out P c (lo := oLo 11 c) (n := 16) (oLo_inb 11 c) (ooff_eq 11 c) rfl) $$ HO
  iintro HO
  iapply (wp_ldw c (lo := oLo 12 c) (n := 16) (lo' := a2 c) (n' := 64) (oLo_inb 12 c) (ooff_eq 12 c) h3 h3') $$ HV
  iintro HV
  iapply (wp_out P c (lo := oLo 12 c) (n := 16) (oLo_inb 12 c) (ooff_eq 12 c) rfl) $$ HO
  iintro HO
  iapply (wp_ldw c (lo := oLo 13 c) (n := 16) (lo' := b2 c) (n' := 32) (oLo_inb 13 c) (ooff_eq 13 c) h4 h4') $$ HW
  iintro HW
  iapply (wp_out P c (lo := oLo 13 c) (n := 16) (oLo_inb 13 c) (ooff_eq 13 c) rfl) $$ HO
  iintro HO
  rw [wp_ret]; imodintro
  iapply Hk $$ %_ HS HO HV HW

theorem part21 (c : Dev nD) (w₁ w₂ w₃ : BitVec 32) (K) :
    ctx P ⊢ iprop(St c 24 18 -∗ (∀ r, Sw c 24 20 -∗ Sr P 18 c -∗ Gt P 18 c -∗ Sr P 19 c -∗ Gt P 19 c -∗ Sr P 20 c -∗ K r)
      -∗ wpb c (app k0_part21 c w₁ w₂ w₃) K) := by
  simp only [wpb, app, k0_part21_eq_skeleton]; unfold k0_part21_skel
  simp only [Prog.lift, Prog.bind_op, Prog.bind_ret, Prog.pure_eq_ret]
  iintro #Hc HS Hk
  iapply (go_ws_ag P 18 (by decide) c 24 18 rfl (by decide) rfl (cs 18 c)) $$ Hc HS
  iintro HS H18
  iapply (go_wr_ag P 18 (by decide) c 24 18 rfl (by decide) rfl (cs 18 c)) $$ Hc HS
  iintro HS Hg18
  iapply (go_ws_ag P 19 (by decide) c 24 19 rfl (by decide) rfl (cs 19 c)) $$ Hc HS
  iintro HS H19
  iapply (go_wr_ag P 19 (by decide) c 24 19 rfl (by decide) rfl (cs 19 c)) $$ Hc HS
  iintro HS Hg19
  iapply (go_ws_ag P 20 (by decide) c 24 20 rfl (by decide) rfl (cs 20 c)) $$ Hc HS
  iintro HS H20
  rw [wp_ret]; imodintro
  iapply Hk $$ %_ HS H18 Hg18 H19 Hg19 H20

theorem part22 (c : Dev nD) (w₁ w₂ w₃ w₄ : BitVec 32) (K) :
    ctx P ⊢ iprop(Sw c 24 20 -∗ wk c (a2 c) 64 kq (fin P) -∗ Sr P 18 c -∗ Gt P 18 c -∗ Sr P 19 c -∗ Gt P 19 c -∗ Sr P 20 c -∗ Dn 24 c
      -∗ (∀ r, St c 25 22 -∗ wk c (a1 c) 256 kh (fin P) -∗ Sr P 21 c -∗ Gt P 21 c -∗ K r)
      -∗ wpb c (app k0_part22 c w₁ w₂ w₃ w₄) K) := by
  simp only [wpb, app, k0_part22_eq_skeleton]; unfold k0_part22_skel
  simp only [Prog.lift, Prog.bind_op, Prog.bind_ret, Prog.pure_eq_ret]
  iintro #Hc HS HV H18 Hg18 H19 Hg19 H20 Hd24 Hk
  iapply (go_wr_ag P 20 (by decide) c 24 20 rfl (by decide) rfl (cs 20 c)) $$ Hc HS
  iintro HS Hg20
  ihave HV := (Entails.of_eq (jn_a1 P c)) $$ [$HV $H18 $H19 $H20 $Hg18 $Hg19 $Hg20]
  ihave ⟨HV, H24⟩ := (Entails.of_eq (sh_a1 P c)) $$ HV
  iapply (go_ag P 24 (by decide) c 24 21 (cd 24 c) rfl (by decide) (cs 24 c) (cs 24 c) rfl rfl) $$ Hc HS H24 Hd24
  iintro HS
  iapply (go_ws_ag P 21 (by decide) c 25 21 rfl (by decide) rfl (cs 21 c)) $$ Hc HS
  iintro HS H21
  iapply (go_wr_ag P 21 (by decide) c 25 21 rfl (by decide) rfl (cs 21 c)) $$ Hc HS
  iintro HS Hg21
  rw [wp_ret]; imodintro
  iapply Hk $$ %_ HS HV H21 Hg21

theorem part23 (c : Dev nD) (w₁ w₂ w₃ w₄ w₅ w₆ : BitVec 32) (K) :
    ctx P ⊢ iprop(St c 25 22 -∗ wk c (b2 c) 32 kq (fin P) -∗ Sr P 21 c -∗ Gt P 21 c
      -∗ (∀ r, St c 25 24 -∗ wk c (b1 c) 128 kq (fin P) -∗ Sr P 25 c -∗ Sr P 26 c -∗ Sr P 27 c -∗ K r)
      -∗ wpb c (app k0_part23 c w₁ w₂ w₃ w₄ w₅ w₆) K) := by
  simp only [wpb, app, k0_part23_eq_skeleton]; unfold k0_part23_skel
  simp only [Prog.lift, Prog.bind_op, Prog.bind_ret, Prog.pure_eq_ret]
  iintro #Hc HS HW H21 Hg21 Hk
  iapply (go_ws_ag P 22 (by decide) c 25 22 rfl (by decide) rfl (cs 22 c)) $$ Hc HS
  iintro HS H22
  iapply (go_wr_ag P 22 (by decide) c 25 22 rfl (by decide) rfl (cs 22 c)) $$ Hc HS
  iintro HS Hg22
  iapply (go_ws_ag P 23 (by decide) c 25 23 rfl (by decide) rfl (cs 23 c)) $$ Hc HS
  iintro HS H23
  iapply (go_wr_ag P 23 (by decide) c 25 23 rfl (by decide) rfl (cs 23 c)) $$ Hc HS
  iintro HS Hg23
  ihave HW := (Entails.of_eq (jn_b1 P c)) $$ [$HW $H21 $H22 $H23 $Hg21 $Hg22 $Hg23]
  ihave ⟨HW, H25, H26, H27⟩ := (Entails.of_eq (sh_b1 P c)) $$ HW
  rw [wp_ret]; imodintro
  iapply Hk $$ %_ HS HW H25 H26 H27

theorem part24 (c : Dev nD) (w₁ w₂ w₃ w₄ w₅ w₆ : BitVec 32) (K) :
    ctx P ⊢ iprop(St c 25 24 -∗ Sr P 25 c -∗ Dn 25 c -∗ Sr P 26 c -∗ Dn 26 c -∗ Sr P 27 c -∗ Dn 27 c -∗ wk c (a1 c) 256 kh (fin P)
      -∗ (∀ r, ⌜r.2.2.2 = ex (rd (oLo 4 c) 64 (oLo_inb 4 c) (fin P))⌝ -∗ St c 28 24 -∗ wk c (a1 c) 256 kh (fin P) -∗ K r)
      -∗ wpb c (app k0_part24 c w₁ w₂ w₃ w₄ w₅ w₆) K) := by
  simp only [wpb, app, k0_part24_eq_skeleton]; unfold k0_part24_skel
  simp only [Prog.lift, Prog.bind_op, Prog.bind_ret, Prog.pure_eq_ret]
  obtain ⟨⟨h1, h1'⟩, -⟩ := (quarters_a2 c).sub
  iintro #Hc HS H25 Hd25 H26 Hd26 H27 Hd27 HV Hk
  iapply (go_ag P 25 (by decide) c 25 24 (cd 25 c) rfl (by decide) (cs 25 c) (cs 25 c) rfl rfl) $$ Hc HS H25 Hd25
  iintro HS
  iapply (go_ag P 26 (by decide) c 26 24 (cd 26 c) rfl (by decide) (cs 26 c) (cs 26 c) rfl rfl) $$ Hc HS H26 Hd26
  iintro HS
  iapply (go_ag P 27 (by decide) c 27 24 (cd 27 c) rfl (by decide) (cs 27 c) (cs 27 c) rfl rfl) $$ Hc HS H27 Hd27
  iintro HS
  iapply (wp_ldw c (lo := oLo 4 c) (n := 64) (lo' := a1 c) (n' := 256) (oLo_inb 4 c) (ooff_eq 4 c) h1 h1') $$ HV
  iintro HV
  rw [wp_ret]; imodintro
  iapply Hk $$ %_ [] HS HV
  ipureintro; rfl

theorem part25 (c : Dev nD) (w₁ w₂ w₃ w₄ w₅ w₆ : BitVec 32) (v : FVec F S64x1024 .f32)
    (hv : v = ex (rd (oLo 4 c) 64 (oLo_inb 4 c) (fin P))) (K) :
    ctx P ⊢ iprop(St c 28 24 -∗ Out P c (cv2 c) -∗ wk c (a1 c) 256 kh (fin P) -∗ wk c (b1 c) 128 kq (fin P)
      -∗ (∀ r, Sw c 28 24 -∗ Out P c (cv3 c) -∗ wk c (a1 c) 256 kh (fin P) -∗ wk c (b1 c) 128 kq (fin P) -∗ Sr P 24 c -∗ K r)
      -∗ wpb c (app k0_part25 c w₁ w₂ w₃ w₄ w₅ w₆ v) K) := by
  simp only [wpb, app, k0_part25_eq_skeleton]; unfold k0_part25_skel
  simp only [Prog.lift, Prog.bind_op, Prog.bind_ret, Prog.pure_eq_ret]
  obtain ⟨-, ⟨h2, h2'⟩, h3, h3'⟩ := (quarters_a2 c).sub
  obtain ⟨⟨h4, h4'⟩, ⟨h5, h5'⟩, h6, h6'⟩ := (quarters_b2 c).sub
  iintro #Hc HS HO HV HW Hk
  iapply (wp_out P c (lo := oLo 4 c) (n := 64) (oLo_inb 4 c) (ooff_eq 4 c) hv) $$ HO
  iintro HO
  iapply (wp_ldw c (lo := oLo 5 c) (n := 64) (lo' := a1 c) (n' := 256) (oLo_inb 5 c) (ooff_eq 5 c) h2 h2') $$ HV
  iintro HV
  iapply (wp_out P c (lo := oLo 5 c) (n := 64) (oLo_inb 5 c) (ooff_eq 5 c) rfl) $$ HO
  iintro HO
  iapply (wp_ldw c (lo := oLo 6 c) (n := 64) (lo' := a1 c) (n' := 256) (oLo_inb 6 c) (ooff_eq 6 c) h3 h3') $$ HV
  iintro HV
  iapply (wp_out P c (lo := oLo 6 c) (n := 64) (oLo_inb 6 c) (ooff_eq 6 c) rfl) $$ HO
  iintro HO
  iapply (wp_ldw c (lo := oLo 7 c) (n := 32) (lo' := b1 c) (n' := 128) (oLo_inb 7 c) (ooff_eq 7 c) h4 h4') $$ HW
  iintro HW
  iapply (wp_out P c (lo := oLo 7 c) (n := 32) (oLo_inb 7 c) (ooff_eq 7 c) rfl) $$ HO
  iintro HO
  iapply (wp_ldw c (lo := oLo 8 c) (n := 32) (lo' := b1 c) (n' := 128) (oLo_inb 8 c) (ooff_eq 8 c) h5 h5') $$ HW
  iintro HW
  iapply (wp_out P c (lo := oLo 8 c) (n := 32) (oLo_inb 8 c) (ooff_eq 8 c) rfl) $$ HO
  iintro HO
  iapply (wp_ldw c (lo := oLo 9 c) (n := 32) (lo' := b1 c) (n' := 128) (oLo_inb 9 c) (ooff_eq 9 c) h6 h6') $$ HW
  iintro HW
  iapply (wp_out P c (lo := oLo 9 c) (n := 32) (oLo_inb 9 c) (ooff_eq 9 c) rfl) $$ HO
  iintro HO
  iapply (go_ws_ag P 24 (by decide) c 28 24 rfl (by decide) rfl (cs 24 c)) $$ Hc HS
  iintro HS H24
  rw [wp_ret]; imodintro
  iapply Hk $$ %_ HS HO HV HW H24

theorem part26 (c : Dev nD) (w₁ w₂ : BitVec 32) (K) :
    ctx P ⊢ iprop(Sw c 28 24
      -∗ (∀ r, St c 28 27 -∗ Gt P 24 c -∗ Sr P 25 c -∗ Gt P 25 c -∗ Sr P 26 c -∗ Gt P 26 c -∗ K r)
      -∗ wpb c (app k0_part26 c w₁ w₂) K) := by
  simp only [wpb, app, k0_part26_eq_skeleton]; unfold k0_part26_skel
  simp only [Prog.lift, Prog.bind_op, Prog.bind_ret, Prog.pure_eq_ret]
  iintro #Hc HS Hk
  iapply (go_wr_ag P 24 (by decide) c 28 24 rfl (by decide) rfl (cs 24 c)) $$ Hc HS
  iintro HS Hg24
  iapply (go_ws_ag P 25 (by decide) c 28 25 rfl (by decide) rfl (cs 25 c)) $$ Hc HS
  iintro HS H25
  iapply (go_wr_ag P 25 (by decide) c 28 25 rfl (by decide) rfl (cs 25 c)) $$ Hc HS
  iintro HS Hg25
  iapply (go_ws_ag P 26 (by decide) c 28 26 rfl (by decide) rfl (cs 26 c)) $$ Hc HS
  iintro HS H26
  iapply (go_wr_ag P 26 (by decide) c 28 26 rfl (by decide) rfl (cs 26 c)) $$ Hc HS
  iintro HS Hg26
  rw [wp_ret]; imodintro
  iapply Hk $$ %_ HS Hg24 H25 Hg25 H26 Hg26

end Cert.Reduce

end
-- ==== Proof.Body.lean ====
/-
The whole body: its entry barrier and product, then the way in and the way back in turn.
-/
module

public import proofs.«01_k».proof.Proof.WayIn
public import proofs.«01_k».proof.Proof.WayBack

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → WB F)

theorem part1 (c : Dev nD) (K) :
    ctx P ⊢ iprop(Ow c (owedB c 0) -∗ Sg 0 c
      -∗ (∀ r, ⌜r.1 = c ∧ r.2.2.2.2.2.2.2.2.2.2.2.2.2 = SemArray.scalar (sig.barrier 0 rfl)⌝ -∗ Ow c (owedB c 1) -∗ Sg 1 c -∗ K r)
      -∗ wpb c (app k0_part1) K) := by
  simp only [wpb, app, k0_part1_eq_skeleton]; unfold k0_part1_skel
  simp only [semSignalWord, Prog.lift, Prog.bind_op, Prog.bind_ret, Prog.pure_eq_ret, wp_deviceId]
  iintro #Hc HO HG Hk
  iapply (go_sig P 0 c 0 (Fin.ext (bdev_eq 0 c)) rfl rfl (by decide)) $$ Hc HO HG
  iintro HO HG
  rw [wp_ret]; imodintro
  iapply Hk $$ %_ [] HO HG
  ipureintro; exact ⟨rfl, rfl⟩

/-- The store of the product leaves it in the work buffer. -/
theorem prod_eq (f : WB F) (X : cc0_stg0_0.ty.Contents (Elt F)) (Y : cc0_stg1_0.ty.Contents (Elt F)) :
    View.write (Elt F) (workM.access (Rect.unit (s := S1024x1024) ![0, 0] S1024x1024.size inb_S1024x1024_S1024x1024_0_0)) f
      (k0_pay3 (View.readAt (Elt F) xM.view (Rect.unit (s := S1024x32) ![0, 0] S1024x32.size inb_S1024x32_S1024x32_0_0).toLoadRect X)
        (View.readAt (Elt F) wM.view (Rect.unit (s := S32x1024) ![0, 0] S32x1024.size inb_S32x1024_S32x1024_0_0).toLoadRect Y))
      Finset.univ = (k0_pay3 X Y : WB F) :=
  (Memref.write_access_unit_zero_univ (Elt F) cc0_scratch0 hz _ f _).trans
    (congrArg₂ k0_pay3 (Memref.readAt_unit_zero (Elt F) cc0_stg0_0 hz _ X) (Memref.readAt_unit_zero (Elt F) cc0_stg1_0 hz _ Y))

theorem part2 (c : Dev nD) (w₁ w₂ w₃ w₄ w₅ w₆ w₇ : BitVec 32) (X : cc0_stg0_0.ty.Contents (Elt F)) (Y : cc0_stg1_0.ty.Contents (Elt F))
    (hP : P c = k0_pay3 X Y) (K) :
    ctx P ⊢ iprop(Ow c (owedB c 1) -∗ Sg 1 c -∗ atPos ER (bC c) 0 ∅ 0 -∗ cred (tallyAt (bC c) () 7)
      -∗ (((c : Thread nD τ).loc cc0_stg0_0) ↦{fullShare} X) -∗ (((c : Thread nD τ).loc cc0_stg1_0) ↦{fullShare} Y)
      -∗ (∃ f : WB F, ((c : Thread nD τ).loc cc0_scratch0) ↦{fullShare} f)
      -∗ (∀ r, Ow c (owedFrom c 0) -∗ semVal (bC c) 0 -∗ Ld c 0
          -∗ (((c : Thread nD τ).loc cc0_stg0_0) ↦{fullShare} X) -∗ (((c : Thread nD τ).loc cc0_stg1_0) ↦{fullShare} Y)
          -∗ wk c 0 1024 fullShare (P c) -∗ K r)
      -∗ wpb c (app k0_part2 c w₁ w₂ w₃ w₄ w₅ w₆ w₇ (SemArray.scalar (sig.barrier 0 rfl))) K) := by
  simp only [wpb, app, k0_part2_eq_skeleton]; unfold k0_part2_skel
  simp only [semSignalWord, semWaitWord, Prog.lift, Prog.bind_op, Prog.bind_ret, Prog.pure_eq_ret]
  iintro #Hc HO HG Hat Hcr HX HY ⟨%f, HW⟩ Hk
  iapply (go_sig P 1 c 1 (Fin.ext (bdev_eq 1 c)) rfl rfl (by decide)) $$ Hc HO HG
  iintro HO HG
  iapply (go_sig P 2 c 2 (Fin.ext (bdev_eq 2 c)) rfl rfl (by decide)) $$ Hc HO HG
  iintro HO HG
  iapply (go_sig P 3 c 3 (Fin.ext (bdev_eq 3 c)) rfl rfl (by decide)) $$ Hc HO HG
  iintro HO HG
  iapply (go_sig P 4 c 4 (Fin.ext (bdev_eq 4 c)) rfl rfl (by decide)) $$ Hc HO HG
  iintro HO HG
  iapply (go_sig P 5 c 5 (Fin.ext (bdev_eq 5 c)) rfl rfl (by decide)) $$ Hc HO HG
  iintro HO HG
  iapply (go_sig P 6 c 6 (Fin.ext (bdev_eq 6 c)) rfl rfl (by decide)) $$ Hc HO HG
  iintro HO -
  iapply (go_bar P c rfl (by decide)) $$ Hc HO Hat Hcr
  iintro HO Hz HL
  iapply (wp_load 𝒱₀ (c : Thread nD τ) none Set.univ (m := xM) (Finset.subset_univ _)) $$ HX
  iintro HX
  iapply (wp_load 𝒱₀ (c : Thread nD τ) none Set.univ (m := wM) (Finset.subset_univ _)) $$ HY
  iintro HY
  iapply (wp_load 𝒱₀ (c : Thread nD τ) none Set.univ (m := workM) (Finset.subset_univ _)) $$ HW
  iintro HW
  iapply (wp_store 𝒱₀ (c : Thread nD τ) none Set.univ (m := workM)
    (r := Rect.unit (s := S1024x1024) ![0, 0] S1024x1024.size inb_S1024x1024_S1024x1024_0_0) (Mk := Finset.univ) (Finset.subset_univ _)) $$ HW
  iintro HW
  rw [prod_eq f X Y, ← hP, wp_ret]; imodintro
  iapply Hk $$ %_ HO Hz HL HX HY [HW]
  unfold wk; rw [rows_all]; iexact HW

theorem dn_eq {i j : Fin 28} (c : Dev nD) (h : pk i = pk j ∧ kLo i = kLo j ∧ len i = len j) : (Dn i c : sProp 𝕄) = Dn j c := by
  unfold Dn; rw [h.1, h.2.1, h.2.2]

theorem st_zero (c : Dev nD) : iprop(Ow c (owedFrom c 0) ∗ bigSep (fromN 0) (Tk · c)) ⊢ (St c 0 0 : sProp 𝕄) := by
  unfold St
  rw [show fl 0 0 = ∅ by decide, show zs 0 = ∅ by decide, bigSep_empty, bigSep_empty]
  iintro ⟨H1, H2⟩
  isplitl [H1]; · iexact H1
  isplitl [H2]; · iexact H2
  isplitr <;> iempintro

theorem bk_zero (c : Dev nD) : iprop(emp) ⊢ (Bk c 0 : sProp 𝕄) := by
  unfold Bk; rw [show zs 0 = ∅ by decide, bigSep_empty]; exact Entails.rfl

theorem gt24 (c : Dev nD) : Gt P 24 c = wk c (oLo 0 c) 256 fullShare (fin P) := rfl
theorem gt25 (c : Dev nD) : Gt P 25 c = wk c (oLo 1 c) 128 fullShare (fin P) := rfl
theorem gt26 (c : Dev nD) : Gt P 26 c = wk c (oLo 2 c) 128 fullShare (fin P) := rfl
theorem gt27 (c : Dev nD) : Gt P 27 c = wk c (oLo 3 c) 128 fullShare (fin P) := rfl

/-- All parts in turn, up to the last two conversions. -/
theorem part27 (c : Dev nD) (X : cc0_stg0_0.ty.Contents (Elt F)) (Y : cc0_stg1_0.ty.Contents (Elt F)) (hP : P c = k0_pay3 X Y) (K) :
    ctx P ⊢ iprop(Ow c (owedB c 0) -∗ Sg 0 c -∗ atPos ER (bC c) 0 ∅ 0 -∗ cred (tallyAt (bC c) () 7) -∗ bigSep (fromN 0) (Tk · c)
      -∗ (((c : Thread nD τ).loc cc0_stg0_0) ↦{fullShare} X) -∗ (((c : Thread nD τ).loc cc0_stg1_0) ↦{fullShare} Y)
      -∗ (∃ f : WB F, ((c : Thread nD τ).loc cc0_scratch0) ↦{fullShare} f) -∗ Out P c []
      -∗ (∀ r, ⌜r.1 = c ∧ r.2.2.2 = rd (oLo 2 c) 128 (oLo_inb 2 c) (fin P)⌝ -∗ St c 28 28 -∗ semVal (bC c) 0 -∗ Bk c 14
          -∗ (((c : Thread nD τ).loc cc0_stg0_0) ↦{fullShare} X) -∗ (((c : Thread nD τ).loc cc0_stg1_0) ↦{fullShare} Y)
          -∗ Out P c (cv4 c) -∗ wk c 0 1024 fullShare (fin P) -∗ K r)
      -∗ wpb c (app k0_part27) K) := by
  simp only [wpb, app, k0_part27_eq_skeleton]; unfold k0_part27_skel
  simp only [Prog.lift, Prog.bind_op, Prog.bind_ret, Prog.pure_eq_ret]
  iintro #Hc HO HG Hat Hcr HT HX HY HW Hout Hk
  rw [wp_bind]
  iapply (part1 P c _) $$ Hc HO HG
  iintro %r %hr HO HG
  obtain ⟨d, _, _, _, _, _, _, _, _, _, _, _, _, s⟩ := r
  obtain ⟨rfl, rfl⟩ : d = c ∧ s = SemArray.scalar (sig.barrier 0 rfl) := hr
  rw [wp_bind]
  iapply (part2 P d _ _ _ _ _ _ _ X Y hP _) $$ Hc HO HG Hat Hcr HX HY HW
  iintro %r HO Hz HL HX HY HW
  obtain ⟨_, _⟩ := r
  ihave HS := (st_zero d) $$ [$HO $HT]
  ihave ⟨⟨HA, H0⟩, HB1, H1, H2, H3⟩ := (Entails.of_eq (sp_all P d)) $$ HW
  rw [wp_bind]
  iapply (part3 P d _ _ _ _ _ _ _ _ _) $$ Hc HS HL H0 H1
  iintro %r HS HL
  obtain ⟨_, _, _, _, _⟩ := r
  rw [wp_bind]
  ihave HB := (bk_zero d) $$ []
  · iempintro
  iapply (part4 P d _ _ _ _ _ _ _) $$ Hc HS HL HB H2 H3 HA
  iintro %r HS HL HB Hd0 HA H4 H5 H6
  rw [wp_bind]
  iapply (part5 P d _ _ _ _ _ _ _) $$ Hc HS HL H4 H5
  iintro %r HS HL
  rw [wp_bind]
  iapply (part6 P d _ _ _ _) $$ Hc HS HL H6
  iintro %r HS HL Hb1 Hb2 Hd1 Hd2
  rw [wp_bind]
  iapply (part7 P d _ _ _ _ _ _) $$ Hc HS HL HB Hb1 Hb2 HB1
  iintro %r HS HL HB Hd3 HB1 H8 H9
  obtain ⟨_, _⟩ := r
  rw [wp_bind]
  iapply (part8 P d _ _ _ _ _ _) $$ Hc HS HL H8 H9
  iintro %r HS HL Hb4 Hd4
  rw [wp_bind]
  iapply (part9 P d _ _ _ _ _) $$ Hc HS HB Hb4 HA
  iintro %r HS HB Hd5 Hd6 HA H10 H11 H12
  obtain ⟨_, _, _⟩ := r
  rw [wp_bind]
  iapply (part10 P d _ _ _ _ _ _ _) $$ Hc HS HL H10 H11 H12
  iintro %r HS HL
  rw [wp_bind]
  iapply (part11 P d _ _ _ _ _) $$ Hc HS HB HB1
  iintro %v %hv HS HB Hd7 Hd8 Hd9 HB1
  rw [wp_bind]
  iapply (part12 P d _ _ _ _ _ v hv _) $$ Hc HS HL HB1
  iintro %r HS Hb10 Hd10 HB1
  obtain ⟨_, _⟩ := r
  rw [wp_bind]
  iapply (part13 P d _ _ _ _ _) $$ Hc HS HB Hb10 HA
  iintro %r HS HB Hd11 Hd12 HA
  obtain ⟨_, _⟩ := r
  rw [wp_bind]
  ihave Hd14 := (Entails.of_eq (dn_eq (i := 10) (j := 14) d ⟨rfl, rfl, rfl⟩)) $$ Hd10
  ihave Hd15 := (Entails.of_eq (dn_eq (i := 11) (j := 15) d ⟨rfl, rfl, rfl⟩)) $$ Hd11
  iapply (part14 P d _ _ _ _ _ _ _ _ _) $$ Hc HS HB HB1 HA Hd14 Hd15
  iintro %r HS HB Hd13 HW H17 HV H16
  obtain ⟨_, _⟩ := r
  rw [wp_bind]
  ihave Hd16 := (Entails.of_eq (dn_eq (i := 12) (j := 16) d ⟨rfl, rfl, rfl⟩)) $$ Hd12
  ihave Hd17 := (Entails.of_eq (dn_eq (i := 13) (j := 17) d ⟨rfl, rfl, rfl⟩)) $$ Hd13
  iapply (part15 P d _ _ _ _ _ _ _ _) $$ Hc HS H16 Hd16 H17 Hd17
  iintro %r HS
  obtain ⟨_, _, _, _, _⟩ := r
  rw [wp_bind]
  iapply (part16 P d _ _ _ _ _ _ _) $$ Hc HS Hout HV HW
  iintro %r HS Hout HV HW H14 Hg14 H15
  rw [wp_bind]
  ihave Hd18 := (Entails.of_eq (dn_eq (i := 4) (j := 18) d ⟨rfl, rfl, rfl⟩)) $$ Hd4
  iapply (part17 P d _ _ _ _ _ _ _) $$ Hc HS HV H14 Hg14 H15 Hd18
  iintro %r HS HV H19 H20
  obtain ⟨_, _⟩ := r
  rw [wp_bind]
  ihave Hd19 := (Entails.of_eq (dn_eq (i := 5) (j := 19) d ⟨rfl, rfl, rfl⟩)) $$ Hd5
  ihave Hd20 := (Entails.of_eq (dn_eq (i := 6) (j := 20) d ⟨rfl, rfl, rfl⟩)) $$ Hd6
  iapply (part18 P d _ _ _ _ _ _) $$ Hc HS H19 Hd19 H20 Hd20
  iintro %r HS H17
  obtain ⟨_, _, _⟩ := r
  rw [wp_bind]
  ihave Hd21 := (Entails.of_eq (dn_eq (i := 7) (j := 21) d ⟨rfl, rfl, rfl⟩)) $$ Hd7
  ihave Hd22 := (Entails.of_eq (dn_eq (i := 8) (j := 22) d ⟨rfl, rfl, rfl⟩)) $$ Hd8
  iapply (part19 P d _ _ _ _ _ _ _) $$ Hc HS H17 HW Hd21 Hd22
  iintro %r HS HW H23
  obtain ⟨_, _⟩ := r
  rw [wp_bind]
  ihave Hd23 := (Entails.of_eq (dn_eq (i := 9) (j := 23) d ⟨rfl, rfl, rfl⟩)) $$ Hd9
  iapply (part20 P d _ _ _ _ _ _ _) $$ Hc HS H23 Hd23 Hout HV HW
  iintro %r HS Hout HV HW
  obtain ⟨_, _, _⟩ := r
  rw [wp_bind]
  iapply (part21 P d _ _ _ _) $$ Hc HS
  iintro %r HS H18 Hg18 H19 Hg19 H20
  rw [wp_bind]
  ihave Hd24 := (Entails.of_eq (dn_eq (i := 0) (j := 24) d ⟨rfl, rfl, rfl⟩)) $$ Hd0
  iapply (part22 P d _ _ _ _ _) $$ Hc HS HV H18 Hg18 H19 Hg19 H20 Hd24
  iintro %r HS HV H21 Hg21
  rw [wp_bind]
  iapply (part23 P d _ _ _ _ _ _ _) $$ Hc HS HW H21 Hg21
  iintro %r HS HW H25 H26 H27
  obtain ⟨_, _⟩ := r
  rw [wp_bind]
  ihave Hd25 := (Entails.of_eq (dn_eq (i := 1) (j := 25) d ⟨rfl, rfl, rfl⟩)) $$ Hd1
  ihave Hd26 := (Entails.of_eq (dn_eq (i := 2) (j := 26) d ⟨rfl, rfl, rfl⟩)) $$ Hd2
  ihave Hd27 := (Entails.of_eq (dn_eq (i := 3) (j := 27) d ⟨rfl, rfl, rfl⟩)) $$ Hd3
  iapply (part24 P d _ _ _ _ _ _ _) $$ Hc HS H25 Hd25 H26 Hd26 H27 Hd27 HV
  iintro %r %hr HS HV
  obtain ⟨_, _, _, v'⟩ := r
  rw [wp_bind]
  iapply (part25 P d _ _ _ _ _ _ v' hr _) $$ Hc HS Hout HV HW
  iintro %r HS Hout HV HW H24
  rw [wp_bind]
  iapply (part26 P d _ _ _) $$ Hc HS
  iintro %r HS Hg24 H25 Hg25 H26 Hg26
  iapply (go_ws_ag P 27 (by decide) d 28 27 rfl (by decide) rfl (cs 27 d)) $$ Hc HS
  iintro HS H27
  iapply (go_wr_ag P 27 (by decide) d 28 27 rfl (by decide) rfl (cs 27 d)) $$ Hc HS
  iintro HS Hg27
  ihave Hg24 := (Entails.of_eq (gt24 P d)) $$ Hg24
  iapply (wp_ldw d (lo := oLo 0 d) (n := 256) (lo' := oLo 0 d) (n' := 256) (oLo_inb 0 d) (ooff_eq 0 d) le_rfl le_rfl) $$ Hg24
  iintro Hg24
  iapply (wp_out P d (lo := oLo 0 d) (n := 256) (oLo_inb 0 d) (ooff_eq 0 d) rfl) $$ Hout
  iintro Hout
  ihave Hg25 := (Entails.of_eq (gt25 P d)) $$ Hg25
  iapply (wp_ldw d (lo := oLo 1 d) (n := 128) (lo' := oLo 1 d) (n' := 128) (oLo_inb 1 d) (ooff_eq 1 d) le_rfl le_rfl) $$ Hg25
  iintro Hg25
  iapply (wp_out P d (lo := oLo 1 d) (n := 128) (oLo_inb 1 d) (ooff_eq 1 d) rfl) $$ Hout
  iintro Hout
  ihave Hg26 := (Entails.of_eq (gt26 P d)) $$ Hg26
  iapply (wp_ldw d (lo := oLo 2 d) (n := 128) (lo' := oLo 2 d) (n' := 128) (oLo_inb 2 d) (ooff_eq 2 d) le_rfl le_rfl) $$ Hg26
  iintro Hg26
  ihave Hg24 := (Entails.of_eq (gt24 P d).symm) $$ Hg24
  ihave Hg25 := (Entails.of_eq (gt25 P d).symm) $$ Hg25
  ihave Hg26 := (Entails.of_eq (gt26 P d).symm) $$ Hg26
  ihave HW := (Entails.of_eq (jn_all P d)) $$ [$HV $H24 $Hg24 $HW $H25 $H26 $H27 $Hg25 $Hg26 $Hg27]
  rw [wp_ret]; imodintro
  iapply Hk $$ %_ [] HS Hz HB HX HY Hout HW
  ipureintro; exact ⟨rfl, rfl⟩

/-- The body, from what a device holds at its start to the sum of all blocks, converted, in its result. -/
theorem body_run (c : Dev nD) (X : cc0_stg0_0.ty.Contents (Elt F)) (Y : cc0_stg1_0.ty.Contents (Elt F)) (hP : P c = k0_pay3 X Y) (K) :
    ctx P ⊢ iprop(Ow c (owedB c 0) -∗ Sg 0 c -∗ atPos ER (bC c) 0 ∅ 0 -∗ cred (tallyAt (bC c) () 7) -∗ bigSep (fromN 0) (Tk · c)
      -∗ (((c : Thread nD τ).loc cc0_stg0_0) ↦{fullShare} X) -∗ (((c : Thread nD τ).loc cc0_stg1_0) ↦{fullShare} Y)
      -∗ (∃ f : WB F, ((c : Thread nD τ).loc cc0_scratch0) ↦{fullShare} f)
      -∗ (∃ g : OB F, ((c : Thread nD τ).loc cc0_stg2_0) ↦{fullShare} g)
      -∗ (Ow c 0 -∗ bigSep Finset.univ (Zs · c) -∗ semVal (bC c) 0 -∗ Bk c 14
          -∗ (((c : Thread nD τ).loc cc0_stg0_0) ↦{fullShare} X) -∗ (((c : Thread nD τ).loc cc0_stg1_0) ↦{fullShare} Y)
          -∗ (((c : Thread nD τ).loc cc0_stg2_0) ↦{fullShare} (cv (fin P) : OB F))
          -∗ (((c : Thread nD τ).loc cc0_scratch0) ↦{fullShare} (fin P : WB F)) -∗ K ⟨⟩)
      -∗ wpb c (app cc0_body) K) := by
  simp only [wpb, app, cc0_body_eq_skeleton]; unfold cc0_body_skel
  simp only [Prog.lift, Prog.bind_op, Prog.bind_ret, Prog.pure_eq_ret]
  iintro #Hc HO HG Hat Hcr HT HX HY HW ⟨%g, Hg⟩ Hk
  rw [wp_bind]
  iapply (part27 P c X Y hP _) $$ Hc HO HG Hat Hcr HT HX HY HW [Hg]
  · unfold Out; iexists g
    isplitr; · ipureintro; exact done_nil P g
    iexact Hg
  iintro %r %hr HS Hz HB HX HY Hout HW
  obtain ⟨d, _, _, v⟩ := r
  obtain ⟨rfl, rfl⟩ : d = c ∧ v = rd (oLo 2 c) 128 (oLo_inb 2 c) (fin P) := hr
  iapply (wp_out P d (lo := oLo 2 d) (n := 128) (oLo_inb 2 d) (ooff_eq 2 d) rfl) $$ Hout
  iintro Hout
  obtain ⟨-, -, h3, h3'⟩ := (quarters_b1 d).sub
  iapply (wp_ldw d (lo := oLo 3 d) (n := 128) (lo' := 0) (n' := 1024) (oLo_inb 3 d) (ooff_eq 3 d) (Nat.zero_le _) (by omega)) $$ HW
  iintro HW
  iapply (wp_out P d (lo := oLo 3 d) (n := 128) (oLo_inb 3 d) (ooff_eq 3 d) rfl) $$ Hout
  iintro Hout
  rw [wp_ret]; imodintro
  unfold Out St
  icases Hout with ⟨%g', %hg', Hout⟩
  obtain rfl : g' = cv (fin P) := done_all P (c := d) hg'
  icases HS with ⟨HO, -, -, HZ⟩
  rw [owedFrom_end, show zs 28 = Finset.univ by decide]
  iapply Hk $$ HO HZ Hz HB HX HY Hout [HW]
  unfold wk; rw [rows_all]; iexact HW

end Cert.Reduce

end
-- ==== Proof.Launch.lean ====
/-
The launch: the ghost state of every cell, what each device starts with, and how the launch's credits, levels and
semaphores are dealt out to the devices.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Tactic

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

/-! ## Conjunctions over the cells -/

theorem sep_un {ι : Type} [DecidableEq ι] {s t : Finset ι} (h : Disjoint s t) (Φ : ι → sProp 𝕄) :
    bigSep (s ∪ t) Φ = iprop(bigSep s Φ ∗ bigSep t Φ) := bigSep_union h

theorem sep_cells (Φ : Option (Fin 56) → sProp 𝕄) :
    bigSep Finset.univ Φ = iprop(Φ none ∗ bigSep Finset.univ fun i : Fin 28 => iprop(Φ (some (sIx i)) ∗ Φ (some (rIx i)))) := by
  rw [show (Finset.univ : Finset (Option (Fin 56))) = insert none ((Finset.univ.image fun i : Fin 28 => some (sIx i)) ∪ Finset.univ.image fun i : Fin 28 => some (rIx i)) by decide,
    sep_in (by decide), sep_un (by decide), bigSep_image_of_injOn, bigSep_image_of_injOn, ← bigSep_sep']
  · intro i _ j _ h; have := congrArg Fin.val (Option.some.inj h); exact Fin.ext (by simp only [rIx] at this; omega)
  · intro i _ j _ h; have := congrArg Fin.val (Option.some.inj h); exact Fin.ext (by simp only [sIx] at this; omega)

theorem sep_dma (Φ : Fin 56 → sProp 𝕄) :
    bigSep Finset.univ Φ = bigSep Finset.univ fun i : Fin 28 => iprop(Φ (sIx i) ∗ Φ (rIx i)) := by
  rw [show (Finset.univ : Finset (Fin 56)) = (Finset.univ.image sIx) ∪ Finset.univ.image rIx by decide,
    sep_un (by decide), bigSep_image_of_injOn, bigSep_image_of_injOn, ← bigSep_sep']
  · intro i _ j _ h; have := congrArg Fin.val h; exact Fin.ext (by simp only [rIx] at this; omega)
  · intro i _ j _ h; have := congrArg Fin.val h; exact Fin.ext (by simp only [sIx] at this; omega)

/-! ## Who owes what at launch -/

theorem sum_tally {ι : Type} [DecidableEq ι] (S : Finset ι) (f : ι → GSem nD τ sig) (a : ι → ℕ) (g : GSem nD τ sig) :
    (∑ i ∈ S, tallyAt (f i) () (a i) : CellTallies nD τ sig Unit) g () = ∑ i ∈ S, if g = f i then a i else 0 := by
  rw [Finset.sum_apply, Finsupp.finset_sum_apply]
  refine Finset.sum_congr rfl fun i _ => ?_
  rw [tallyAt_apply]
  by_cases h : g = f i
  · rw [if_pos ⟨h, rfl⟩, if_pos h]
  · rw [if_neg (fun h' => h h'.1), if_neg h]

theorem dm_inj {k k' : Fin 56} (h : dm k = dm k') : k = k' := by
  have := congrArg Fin.val h; exact Fin.ext (by simp only [dm] at this; omega)

theorem bC_iff {a b : Dev nD} : Iff (bC a = bC b) (a = b) :=
  ⟨fun h => Fin.ext (congrArg (fun g : GSem nD τ sig => g.1.1.val) h), fun h => h ▸ rfl⟩
theorem rC_iff {a b : Dev nD} {i j : Fin 28} : Iff (rC a i = rC b j) (a = b ∧ i = j) := by
  refine ⟨fun h => ⟨Fin.ext (congrArg (fun g : GSem nD τ sig => g.1.1.val) h), ?_⟩, fun h => by rw [h.1, h.2]⟩
  have h1 : (SemLoc.dma (rv i) : SemLoc sig) = .dma (rv j) := congrArg Prod.snd h
  have := congrArg Fin.val (dm_inj (SemLoc.dma.inj h1))
  exact Fin.ext (by simp only [rIx] at this; omega)
theorem bC_ne (a b : Dev nD) (q : DmaSem sig) : bC a ≠ ((b : Thread nD τ), .dma q) := fun h => by
  have h1 : (SemLoc.reg barS : SemLoc sig) = .dma q := congrArg Prod.snd h
  cases h1

theorem par_iff (k : Fin 7) {c d : Dev nD} : Iff (c = par k d) (d = par k c) :=
  ⟨fun h => by rw [h, par_par], fun h => by rw [h, par_par]⟩

theorem owedB_bar (d c : Dev nD) : owedB d 0 (bC c) () = ∑ k : Fin 7, if d = par k c then 1 else 0 := by
  unfold owedB owedFrom
  rw [Pi.add_apply, Finsupp.add_apply, sum_tally, sum_tally, Finset.sum_eq_zero fun i _ => if_neg (bC_ne c _ _), Nat.zero_add,
    show fromK 0 = Finset.univ by decide]
  exact Finset.sum_congr rfl fun k _ => if_congr (bC_iff.trans (par_iff k)) rfl rfl

theorem owedB_rcv (d c : Dev nD) (i : Fin 28) : owedB d 0 (rC c i) () = if d = par (pk i) c then Nn i else 0 := by
  unfold owedB owedFrom
  rw [Pi.add_apply, Finsupp.add_apply, sum_tally, sum_tally, Finset.sum_eq_zero (s := fromK 0) fun k _ => if_neg fun h => bC_ne _ c _ h.symm, Nat.add_zero,
    show fromN 0 = Finset.univ by decide,
    Finset.sum_eq_single i (fun j _ hj => if_neg fun h => hj (rC_iff.mp h).2.symm) (fun h => absurd (Finset.mem_univ i) h)]
  exact if_congr (rC_iff.trans ⟨fun h => (par_iff _).mp h.1, fun h => ⟨(par_iff _).mpr h, rfl⟩⟩) rfl rfl

theorem launch_bar (c : Dev nD) :
    tallyOn (bC c) (launchCredit (Pipeline.owing (owedB · 0)) 0 (bC c)) = (tallyAt (bC c) () 7 : CellTallies nD τ sig Unit) := by
  unfold tallyAt; refine congrArg _ (Finsupp.ext fun u => ?_); cases u
  rw [Pipeline.launchCredit_owing, Finsupp.single_eq_same, Finset.sum_congr rfl fun d _ => owedB_bar d c, Finset.sum_comm,
    Finset.sum_congr rfl fun k _ => (Finset.sum_ite_eq' Finset.univ (par k c) fun _ => 1).trans (if_pos (Finset.mem_univ _)),
    Finset.sum_const, Finset.card_univ, Fintype.card_fin, smul_eq_mul]

theorem launch_rcv (c : Dev nD) (i : Fin 28) :
    tallyOn (rC c i) (launchCredit (Pipeline.owing (owedB · 0)) 0 (rC c i)) = (tallyAt (rC c i) () (Nn i) : CellTallies nD τ sig Unit) := by
  unfold tallyAt; refine congrArg _ (Finsupp.ext fun u => ?_); cases u
  rw [Pipeline.launchCredit_owing, Finsupp.single_eq_same, Finset.sum_congr rfl fun d _ => owedB_rcv d c i,
    Finset.sum_ite_eq' Finset.univ (par (pk i) c) fun _ => Nn i, if_pos (Finset.mem_univ _)]

/-- A device's credits: seven units at its barrier, each copy's at its receive cell. -/
def Cr (c : Dev nD) : sProp 𝕄 :=
  iprop(cred (tallyAt (bC c) () 7) ∗ bigSep Finset.univ fun i : Fin 28 => cred (tallyAt (rC c i) () (Nn i)))

theorem creds (c : Dev nD) : (Pipeline.launchCred (owedB · 0) c : sProp 𝕄) ⊢ Cr c := by
  unfold Pipeline.launchCred Cr
  rw [bigSep_univ_at _ (SemLoc.reg barS), launch_bar]
  refine sep_mono_right ?_
  rw [show (bigSep Finset.univ fun i : Fin 28 => (cred (tallyAt (rC c i) () (Nn i)) : sProp 𝕄))
      = bigSep (Finset.univ.image fun i : Fin 28 => (SemLoc.dma (rv i) : SemLoc sig)) fun sm : SemLoc sig =>
          cred (tallyOn ((c : Thread nD τ), sm) (launchCredit (Pipeline.owing (owedB · 0)) 0 ((c : Thread nD τ), sm))) from by
    rw [bigSep_image_of_injOn]
    · exact bigSep_congr fun i _ => by rw [launch_rcv]
    · intro i _ j _ h
      exact (rC_iff (a := c) (b := c)).mp (congrArg (Prod.mk (c : Thread nD τ)) h) |>.2]
  refine bigSep_subset fun sm h => ?_
  obtain ⟨i, -, rfl⟩ := Finset.mem_image.mp h
  exact Finset.mem_erase.mpr ⟨(fun h => by cases h), Finset.mem_univ _⟩

/-! ## The ghost state dealt at launch -/

theorem kcell_injective : Function.Injective (kcell : Dev nD × Option (Fin 56) → GSem nD τ sig) := by
  rintro ⟨c, k⟩ ⟨c', k'⟩ h
  have h1 : c = c' := congrArg (fun g : GSem nD τ sig => g.1.1) h
  subst h1
  have h2 : csem k = csem k' := congrArg Prod.snd h
  cases k with
  | none => cases k' with
    | none => rfl
    | some k' => exact absurd h2 (fun h => by cases h)
  | some k => cases k' with
    | none => exact absurd h2 (fun h => by cases h)
    | some k' => rw [dm_inj (SemLoc.dma.inj h2)]
def cells₀ : Finset (GSem nD τ sig) := Finset.univ.map ⟨kcell, kcell_injective⟩

/-- The duty tokens as minted: a barrier cell's seven, any other cell's one. -/
abbrev tokOf (x : Dev nD × (Fin 7 ⊕ Fin 56)) : GSem nD τ sig × ℕ × Fin 7 := match x.2 with
  | .inl k => (bC x.1, 0, k) | .inr k => (((x.1 : Thread nD τ), .dma (dm k)), 0, 0)
theorem tokOf_injective : Function.Injective (tokOf : Dev nD × (Fin 7 ⊕ Fin 56) → GSem nD τ sig × ℕ × Fin 7) := by
  rintro ⟨c, j⟩ ⟨c', j'⟩ h
  have h1 : c = c' := by
    have := congrArg (fun x : GSem nD τ sig × ℕ × Fin 7 => x.1.1.1) h
    cases j <;> cases j' <;> exact this
  subst h1
  have h2 := congrArg (fun x : GSem nD τ sig × ℕ × Fin 7 => (x.1.2, x.2.2)) h
  cases j with
  | inl k => cases j' with
    | inl k' => have h3 : k = k' := congrArg Prod.snd h2; rw [h3]
    | inr k' => exact absurd (congrArg Prod.fst h2) (fun h => by cases h)
  | inr k => cases j' with
    | inl k' => exact absurd (congrArg Prod.fst h2) (fun h => by cases h)
    | inr k' =>
      have h3 : (SemLoc.dma (dm k) : SemLoc sig) = .dma (dm k') := congrArg Prod.fst h2
      rw [dm_inj (SemLoc.dma.inj h3)]
def toks₀ : Finset (GSem nD τ sig × ℕ × Fin 7) := Finset.univ.map ⟨tokOf, tokOf_injective⟩

def u₀ : UU :=
  (initOf (Pipeline.cells cfgs cellOf_inj) (Pipeline.launchToks cfgs cellOf_inj), initOf cells₀ toks₀)

/-- The duty tokens of device `c`'s own cells, -/
def toks (c : Dev nD) : sProp 𝕄 :=
  iprop((bigSep Finset.univ fun k : Fin 7 => dutyTok ER (bC c) 0 k)
    ∗ bigSep Finset.univ fun i : Fin 28 => iprop(dutyTok ER (sC c i) 0 0 ∗ dutyTok ER (rC c i) 0 0))
/-- and of the duties it pays. -/
def payToks (c : Dev nD) : sProp 𝕄 :=
  iprop((bigSep Finset.univ fun k : Fin 7 => dutyTok ER (bC (par k c)) 0 k)
    ∗ bigSep Finset.univ fun i : Fin 28 => iprop(dutyTok ER (sC c i) 0 0 ∗ dutyTok ER (rC (par (pk i) c) i) 0 0))

/-- A token for a partner's cell, dealt to that partner, for every device at once. -/
theorem deal (k : Fin 7) (Φ : Dev nD → sProp 𝕄) : (bigSep Finset.univ fun c => Φ c) = bigSep Finset.univ fun c => Φ (par k c) :=
  bigSep_univ_equiv (parE k) Φ

theorem toks_around : (bigSep Finset.univ fun c : Dev nD => (toks c : sProp 𝕄)) = bigSep Finset.univ fun c : Dev nD => payToks c := by
  unfold toks payToks
  simp only [bigSep_sep']
  rw [bigSep_univ_comm fun (c : Dev nD) (k : Fin 7) => (dutyTok ER (bC c) 0 k : sProp 𝕄),
    bigSep_univ_comm fun (c : Dev nD) (k : Fin 7) => (dutyTok ER (bC (par k c)) 0 k : sProp 𝕄),
    bigSep_univ_comm fun (c : Dev nD) (i : Fin 28) => (dutyTok ER (rC c i) 0 0 : sProp 𝕄),
    bigSep_univ_comm fun (c : Dev nD) (i : Fin 28) => (dutyTok ER (rC (par (pk i) c) i) 0 0 : sProp 𝕄),
    bigSep_congr fun (k : Fin 7) _ => deal k fun c => (dutyTok ER (bC c) 0 k : sProp 𝕄),
    bigSep_congr fun (i : Fin 28) _ => deal (pk i) fun c => (dutyTok ER (rC c i) 0 0 : sProp 𝕄)]

variable (P : Dev nD → WB F)

/-- What launch deals device `c`. -/
def G (c : Dev nD) : sProp 𝕄 :=
  iprop((bigSep Finset.univ fun k : Option (Fin 56) => roundState ER (sched P) (kcell (c, k)) 0)
    ∗ (bigSep Finset.univ fun k : Option (Fin 56) => iprop(atPos ER (kcell (c, k)) 0 ∅ 0 ∗ reached ER (kcell (c, k)) 0)) ∗ toks c)

theorem fund : BI.own (ER (initOf cells₀ toks₀)) ⊢ (|==> bigSep Finset.univ (G P) : sProp 𝕄) := by
  have hX (Φ : GSem nD τ sig → sProp 𝕄) : bigSep cells₀ Φ = bigSep Finset.univ fun c : Dev nD => bigSep Finset.univ fun k : Option (Fin 56) => Φ (kcell (c, k)) := by
    unfold cells₀; rw [bigSep_map, bigSep_univ_prod]; rfl
  have hT : bigSep toks₀ (fun x => (dutyTok ER x.1 x.2.1 x.2.2 : sProp 𝕄)) = bigSep Finset.univ fun c : Dev nD => toks c := by
    unfold toks₀; rw [bigSep_map, bigSep_univ_prod]
    exact bigSep_congr fun c _ => by unfold toks; rw [bigSep_univ_sum, sep_dma]; rfl
  iintro HX
  imod (Rounds.fund ER (sched P) cells₀ toks₀) $$ HX with ⟨Hst, Hr, Hat, Htok⟩
  imodintro
  ihave Hst' := (Entails.of_eq (hX fun g => roundState ER (sched P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own; its entry barrier is not. -/
abbrev osem (k : Fin 56) : SemLoc sig := .dma (dm k)

theorem ownSems_eq (c : Dev nD) : (Pipeline.ownSems0 (Ix := Unit) (Name := ℕ) (U := UU) (Lvl := ℕ) (Val := Elt F) (τ := τ) osem c : sProp 𝕄)
    = bigSep Finset.univ (Zs · c) := by
  unfold Pipeline.ownSems0; rw [sep_dma]; rfl
theorem unscopedSems_eq (c : Dev nD) : (unscopedSems0 c : sProp 𝕄) = semVal (bC c) 0 := by
  unfold unscopedSems0; rw [bigSep_eq_bigSepL_of_eq [SemLoc.reg barS] (by decide) (by decide)]; rfl

theorem sems_cells (c : Dev nD) : iprop(bigSep Finset.univ (Zs · c) ∗ semVal (bC c) 0) ⊢ (bigSep Finset.univ fun k => semVal (kcell (c, k)) 0 : sProp 𝕄) := by
  rw [sep_cells]; unfold Zs
  iintro ⟨H1, H2⟩
  isplitl [H2]; · iexact H2
  iexact H1

theorem cells_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k => iprop(∃ κ : ℕ, cellInv ER (sched P) κ (kcell (c, k))))
          ∗ (bigSep Finset.univ fun k => iprop(atPos ER (kcell (c, k)) 0 ∅ 0 ∗ reached ER (kcell (c, k)) 0)) ∗ toks c) := by
  unfold G
  rw [ownSems_eq, unscopedSems_eq]
  iintro ⟨Hos, Hus, Hst, Hat, Htok⟩
  ihave Hv := (sems_cells (F := F) c) $$ [Hos Hus]
  · isplitl [Hos] <;> iassumption
  imod (show iprop((bigSep Finset.univ fun k : Option (Fin 56) => semVal (kcell (c, k)) 0) ∗ bigSep Finset.univ fun k : Option (Fin 56) => roundState ER (sched P) (kcell (c, k)) 0)
      ⊢ (|={Set.univ}=> bigSep Finset.univ fun k => iprop(∃ κ : ℕ, cellInv ER (sched P) κ (kcell (c, k))) : sProp 𝕄) from by
        rw [← bigSep_sep']
        exact (bigSep_mono fun k _ => (Rounds.body_intro ER (sched P) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions and the tokens of the duties it pays; -/
def Ps (c : Dev nD) : sProp 𝕄 :=
  iprop((bigSep Finset.univ fun k : Option (Fin 56) => atPos ER (kcell (c, k)) 0 ∅ 0) ∗ payToks c)
/-- and with it the record of all cells. -/
def G' (c : Dev nD) : sProp 𝕄 := iprop((∃ K, records P K) ∗ Ps c)

theorem regroup :
    (bigSep Finset.univ fun c : Dev nD => iprop((bigSep Finset.univ fun k => iprop(∃ κ : ℕ, cellInv ER (sched P) κ (kcell (c, k))))
          ∗ (bigSep Finset.univ fun k => iprop(atPos ER (kcell (c, k)) 0 ∅ 0 ∗ reached ER (kcell (c, k)) 0)) ∗ toks c) : sProp 𝕄)
      ⊢ bigSep Finset.univ (G' P) := by
  rw [bigSep_sep', bigSep_sep', ← bigSep_univ_prod (fun p : Dev nD × Option (Fin 56) => iprop(∃ κ : ℕ, cellInv ER (sched P) κ (kcell p))),
    bigSep_congr (s := Finset.univ) (fun (c : Dev nD) _ => bigSep_sep' Finset.univ (fun k : Option (Fin 56) => (atPos ER (kcell (c, k)) 0 ∅ 0 : sProp 𝕄)) (fun k => reached ER (kcell (c, k)) 0)),
    bigSep_sep', ← bigSep_univ_prod (fun p : Dev nD × Option (Fin 56) => (reached ER (kcell p) 0 : sProp 𝕄)), toks_around]
  iintro ⟨HI, ⟨Hat, #HR⟩, Htok⟩
  ihave HK := (BI.bigSep_exists_pi Finset.univ (fun (p : Dev nD × Option (Fin 56)) (κ : ℕ) => (cellInv ER (sched P) κ (kcell p) : sProp 𝕄))) $$ HI
  icases HK with ⟨%K, #HI⟩
  iapply (bigSep_with_persistent (R := records P K) (Φ := Ps) fun c _ => by
    unfold G'; iintro ⟨H1, H2⟩; isplitl [H1]
    · iexists K; iexact H1
    iexact H2)
  isplitr
  · unfold records; rw [bigSep_sep']; isplitl; · iexact HI
    iexact HR
  · unfold Ps; rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => cells_alloc P c).trans (bigSep_fupd _ _)).trans (BI.fupd_mono (regroup P))

/-! ## From launch to the body's first step and back -/

/-- What device `c`'s body starts from, besides its buffers. -/
def start (c : Dev nD) : sProp 𝕄 := iprop(ctx P ∗ Ps c ∗ Cr c)

theorem Tk_all (c : Dev nD) : (bigSep (fromN 0) (Tk · c) : sProp 𝕄)
    = iprop((bigSep Finset.univ fun i : Fin 28 => iprop(dutyTok ER (sC c i) 0 0 ∗ dutyTok ER (rC (par (pk i) c) i) 0 0))
        ∗ (bigSep Finset.univ fun i : Fin 28 => iprop(atPos ER (sC c i) 0 ∅ 0 ∗ atPos ER (rC c i) 0 ∅ 0))
        ∗ bigSep Finset.univ fun i : Fin 28 => cred (tallyAt (rC c i) () (Nn i))) := by
  rw [show fromN 0 = Finset.univ by decide, ← bigSep_sep', ← bigSep_sep']
  refine bigSep_congr fun i _ => ?_
  unfold Tk; rw [sep_assoc_eq, sep_assoc_eq]

theorem Sg_all (c : Dev nD) : (Sg 0 c : sProp 𝕄) = iprop((bigSep Finset.univ fun k : Fin 7 => dutyTok ER (bC (par k c)) 0 k) ∗ Bk c 14) := by
  unfold Sg Bk
  rw [show fromK 0 = Finset.univ by decide, bigSep_sep']
  congr 1
  rw [show zs 14 = Finset.univ.filter (fun i : Fin 28 => i.val < 14) by decide,
    bigSep_fiberwise (Finset.univ.filter fun i : Fin 28 => i.val < 14) pk,
    show (Finset.univ.filter fun i : Fin 28 => i.val < 14).image pk = Finset.univ by decide]
  refine bigSep_congr fun k _ => ?_
  unfold bufs; rw [Finset.filter_filter]

/-- The start, sorted as the body takes it. -/
theorem start_split (c : Dev nD) : iprop(start P c ∗ Bk c 14)
    ⊢ iprop(ctx P ∗ Sg 0 c ∗ atPos ER (bC c) 0 ∅ 0 ∗ cred (tallyAt (bC c) () 7) ∗ bigSep (fromN 0) (Tk · c)) := by
  unfold start Ps Cr payToks
  rw [Tk_all, Sg_all, sep_cells]
  iintro ⟨⟨Hc, ⟨⟨Ha, Has⟩, Hk, Ht⟩, Hb, Hr⟩, HB⟩
  isplitl [Hc]; · iexact Hc
  isplitl [Hk HB]
  · isplitl [Hk]; · iexact Hk
    iexact HB
  isplitl [Ha]; · iexact Ha
  isplitl [Hb]; · iexact Hb
  isplitl [Ht]; · iexact Ht
  isplitl [Has]; · iexact Has
  iexact Hr

end Cert.Reduce

end
-- ==== Proof.Region.lean ====
/-
The run of the program: the pipeline around the body, its staged operands and result, and the theorem that every fair
execution ends with each array at its stated contents and every counter at zero.
-/
module

public import proofs.«01_k».proof.Proof.Launch
public import Idealize.ShloMosaic.Lib.Pipeline.CollectiveSegs

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

/-! ## The scratch buffers: the work buffer and the landing buffers -/

theorem land (c : Dev nD) (b : Ref sig .tc) :
    (iprop(∃ f : Buf (Elt F) ((c : Thread nD τ).loc b), ((c : Thread nD τ).loc b) ↦[(View.whole b).set]{fullShare} f) : sProp 𝕄)
      = iprop(∃ f : Buf (Elt F) ((c : Thread nD τ).loc b), ((c : Thread nD τ).loc b) ↦{fullShare} f) := by
  rw [View.set_whole]

/-- The work buffer at any contents. -/
def Wk (c : Dev nD) : sProp 𝕄 := iprop(∃ f : WB F, ((c : Thread nD τ).loc cc0_scratch0) ↦{fullShare} f)

theorem scratch_eq (c : Dev nD) :
    (Pipeline.scopedRest (Ix := Unit) (Name := ℕ) (U := UU) (Lvl := ℕ) (Val := Elt F) spec0 c : sProp 𝕄) = iprop(Wk c ∗ Bk c 14) := by
  rw [scopedRest0_eq]; unfold Wk Bk
  rw [bigSep_eq_bigSepL_of_eq [0, 4, 5, 6, 10, 11, 12, 1, 2, 3, 7, 8, 9, 13] (by decide) (by decide)]
  exact congrArg₂ _ rfl <| congrArg₂ _ (land c cc0_scratch1).symm <| congrArg₂ _ (land c cc0_scratch2).symm <| congrArg₂ _ (land c cc0_scratch3).symm <| congrArg₂ _ (land c cc0_scratch4).symm <| congrArg₂ _ (land c cc0_scratch5).symm <| congrArg₂ _ (land c cc0_scratch6).symm <| congrArg₂ _ (land c cc0_scratch7).symm <| congrArg₂ _ (land c cc0_scratch8).symm <| congrArg₂ _ (land c cc0_scratch9).symm <| congrArg₂ _ (land c cc0_scratch10).symm <| congrArg₂ _ (land c cc0_scratch11).symm <| congrArg₂ _ (land c cc0_scratch12).symm <| congrArg₂ _ (land c cc0_scratch13).symm (land c cc0_scratch14).symm

/-! ## The pipeline's data -/

section Data
variable (m : (ℓ : Loc nD τ sig) → Buf (Elt F) ℓ) (ρ : Dev nD → PrngReg)

/-- The memory at launch, every counter at zero. -/
def s₀ : MemSt nD τ sig (Elt F) := ⟨m, fun _ => 0, ρ⟩

/-- A device's operands, as staged, and their product. -/
def xIn (c : Dev nD) : cc0_stg0_0.ty.Contents (Elt F) := (win0_0.blk (0 : Fin 1)).view.read (Elt F) ((s₀ m ρ).mem ((c : Thread nD τ).loc main_arg0))
def wIn (c : Dev nD) : cc0_stg1_0.ty.Contents (Elt F) := (win0_1.blk (0 : Fin 1)).view.read (Elt F) ((s₀ m ρ).mem ((c : Thread nD τ).loc main_arg1))
def prods (c : Dev nD) : WB F := k0_pay3 (xIn m ρ c) (wIn m ρ c)

def Φ₀ (c : Dev nD) : sProp 𝕄 := iprop(start (prods m ρ) c ∗ Wk c ∗ Bk c 14)
def Φ₁ (c : Dev nD) : sProp 𝕄 := iprop((Wk c ∗ Bk c 14) ∗ bigSep Finset.univ (Zs · c) ∗ semVal (bC c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => wIn m ρ c
    | ⟨2, _⟩ => (cv (fin (prods m ρ)) : OB F)
  Φ t := match t with
    | ⟨0, _⟩ => Φ₀ m ρ c
    | ⟨_ + 1, _⟩ => Φ₁ c
  q _ := fullShare
  owed t := match t with
    | ⟨0, _⟩ => owedB c 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at the given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (xIn m ρ c) ∗ stg c cc0_stg1_0 (wIn m ρ c)
    ∗ stg c cc0_stg2_0 (cv (fin (prods m ρ)) : OB F))

/-- The body from what the pipeline hands it to what the pipeline takes back. -/
theorem body_sound (c : Dev nD) : bodyPre m ρ c ⊢ wpb c (app cc0_body) (fun _ => bodyPost m ρ c) := by
  unfold bodyPre Φ₀
  iintro ⟨⟨Hs, HW, HB⟩, Ho, ⟨%d0, %g0, %hg0, HX⟩, ⟨%d1, %g1, %hg1, HY⟩, ⟨%d2, %g2, -, HO⟩⟩
  have hx : g0 = xIn m ρ c := by rw [hg0]; unfold Dat.before; rw [if_pos (fetch0_0 t0_0)]; rfl
  have hw : g1 = wIn m ρ c := by rw [hg1]; unfold Dat.before; rw [if_pos (fetch0_1 t0_0)]; rfl
  subst hx hw
  ihave ⟨#Hc, HG, Hat, Hcr, HT⟩ := (start_split (prods m ρ) c) $$ [$Hs $HB]
  unfold Wk
  unfold Dat.owesAt Pipeline.owesWithin
  icases Ho with ⟨%W, -, Ho⟩
  rw [show (dats m ρ 0 c).owed t0_0.castSucc = owedB c 0 from rfl]
  iapply (body_run (prods m ρ) c (xIn m ρ c) (wIn m ρ c) rfl _) $$ Hc [Ho] HG Hat Hcr HT HX HY HW [HO]
  · unfold Ow; iexists W; iexact Ho
  · iexists g2; iexact HO
  iintro Ho HZ Hz HB HX HY HO HW
  unfold bodyPost Φ₁ Wk Ow Dat.owesAt Pipeline.owesWithin
  rw [show (dats m ρ 0 c).owed t0_0.succ = 0 from rfl]
  icases Ho with ⟨%W', Ho⟩
  isplitl [HW HB HZ Hz]
  · isplitl [HW HB]
    · isplitl [HW]; · iexists _; iexact HW
      iexact HB
    isplitl [HZ]; · iexact HZ
    iexact Hz
  isplitl [Ho]
  · iexists W'; isplitr; · ipureintro; exact fun _ _ => Or.inl trivial
    iexact Ho
  isplitl [HX]
  · iexists _; isplitr; · (ipureintro; rfl)
    iexact HX
  isplitl [HY]
  · iexists _; isplitr; · (ipureintro; rfl)
    iexact HY
  iexists _; isplitr; · (ipureintro; rfl)
  iexact HO

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpb c (app cc0_body) (fun _ => bodyPost m ρ c)
  exact body_sound m ρ c

/-! ## The run -/

theorem ownSemFacts : Pipeline.OwnSemFacts cfg0.spec osem :=
  ⟨fun k => by revert k; decide, fun k k' h => dm_inj (SemLoc.dma.inj h), by decide⟩

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (owedB · 0) c ∗ prngReg c (ρ c) ∗ G' (prods m ρ) c)
      ⊢ |={Set.univ}=> iprop(start (prods m ρ) c ∗ emp) := by
  unfold G' start ctx
  iintro ⟨-, Hl, Hcr, -, HK, HP⟩
  ihave Hc := (creds (F := F) c) $$ Hcr
  imodintro
  isplitl
  · isplitl [HK Hl]; · isplitl [HK] <;> iassumption
    isplitl [HP] <;> iassumption
  · iempintro

theorem phi_in (c : Dev nD) :
    iprop(start (prods m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show cfg0.spec = spec0 from rfl, scratch_eq]
  unfold Φ₀
  iintro ⟨Hs, -, Hr⟩
  isplitl [Hs]; · iexact Hs
  iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show cfg0.spec = spec0 from rfl, scratch_eq, ownSems_eq, unscopedSems_eq]
  unfold Φ₁
  iintro ⟨Hr, HZ, Hz⟩
  isplitl [Hz]; · iexact Hz
  isplitl [HZ]; · iexact HZ
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_entry c _ (by fin_cases w <;> fin_cases s <;> rfl)
    · show _ ⊢ MayWait _ _ _ 0
      rw [MayWait_zero]; iintro -; iempintro

/-- What the windows' arrays hold after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every weakly fair execution of the program ends, with each array at its final
    contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := (owedB · 0)) (howed₀ := fun _ => rfl) (howedN := fun _ => rfl)
    (L := L) (lv := lv) (hL := L_of_ne) (hwaits := waits m ρ)
    (G := G (prods m ρ)) (G' := G' (prods m ρ)) (u₀ := u₀)
    (hu₀ := by
      unfold u₀
      iintro Hu
      ihave H := (ownU_pair _ _) $$ Hu
      icases H with ⟨HP, HX⟩
      imod (fund (prods m ρ)) $$ HX with HG
      imodintro
      isplitl [HP] <;> iassumption)
    (hglob := glob (prods m ρ))
    (hA := fun _ _ => rfl) (hpf := fun _ k => k.elim0)
    (X := start (prods m ρ)) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands after the run are the operands before it. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Data

end Cert.Reduce

end
-- ==== Proof.Sum.lean ====
/-
The sum of the devices' products: over the exact values every stage of the reduction is a sum over the devices, and
the sum over all of them is the product of the whole operands.
-/
module

public import proofs.«01_k».proof.Proof.Values
public import Idealize.ShloMosaic.Lib.MatmulPlain
public import Idealize.ShloMosaic.Lib.ValueIdx
public import Idealize.ShloMosaic.Lib.Layout

@[expose] public section

noncomputable section

namespace Cert.Reduce

open Cert.KernelIdeal Cert.KernelIdeal.Gen
open Idealize.ShloMosaic Idealize.ShloMosaic.ValueIdx

/-! ## The reduction is a sum over the devices -/

variable {R : Type} [AddCommMonoid R]

/-- The device reached from `d` through a partner of the first kind, one of the second and one of the third; the
    zeroth is no partner. -/
def hop (d : Dev nD) (p : Fin 2 × Fin 4 × Fin 4) : Dev nD :=
  let e : Dev nD := match p.2.2 with | 0 => d | 1 => par 4 d | 2 => par 5 d | 3 => par 6 d
  let e' : Dev nD := match p.2.1 with | 0 => e | 1 => par 1 e | 2 => par 2 e | 3 => par 3 e
  match p.1 with | 0 => e' | 1 => par 0 e'

/-- Every device is reached, once. -/
theorem hop_bijective : ∀ d : Dev nD, Function.Bijective (hop d) := by
  have hi : ∀ d : Dev nD, Function.Injective (hop d) := by decide +kernel
  intro d
  exact (Fintype.bijective_iff_injective_and_card _).mpr ⟨hi d, by simp⟩

theorem sum_hop (f : Dev nD → R) (d : Dev nD) : ∑ a : Fin 4, ∑ b : Fin 4, ∑ x : Fin 2, f (hop d (x, b, a)) = ∑ e, f e := by
  rw [← (hop_bijective d).sum_comp f, Fintype.sum_prod_type_right, Fintype.sum_prod_type_right]

/-- Partners of the three kinds commute. -/
theorem par_comm : ∀ (k l : Fin 7) (d : Dev nD), par k (par l d) = par l (par k d) := by decide +kernel

/-- The entry at `i` of a device's buffer, as an extended real. -/
def en (i : S1024x1024.Idx) (f : Dev nD → WB Ideal) (d : Dev nD) : EReal := f d i

variable (P : Dev nD → WB Ideal) (d : Dev nD) (i : S1024x1024.Idx)

theorem addX_apply (f : Dev nD → WB Ideal) : en i (addX f) d = en i f d + en i f (par 0 d) := rfl
theorem add4_apply (k k' k'' : Fin 7) (f : Dev nD → WB Ideal) :
    en i (add4 k k' k'' f) d = en i f d + en i f (par k d) + en i f (par k' d) + en i f (par k'' d) := rfl

theorem A3_sum : en i (A3 P) d = ∑ e, en i P e := by
  rw [← sum_hop _ d]
  unfold A3 A2 A1
  simp only [add4_apply, addX_apply, Fin.sum_univ_four, Fin.sum_univ_two]
  rfl

theorem B3_sum : en i (B3 P) d = ∑ e, en i P e := by
  rw [← A3_sum P d i]
  unfold A3 A2 A1 B3 B2 B1
  simp only [add4_apply, addX_apply, par_comm 0]
  ac_rfl

theorem fin_sum : (fin P i : EReal) = ∑ e, en i P e := by
  unfold fin; split
  · exact A3_sum P _ i
  · exact B3_sum P _ i

end Cert.Reduce

end
-- ==== Proof.Output.lean ====
/-
The result of the run over the exact values: every device's result array is the product of the whole operands.
-/
module

public import proofs.«01_k».proof.Proof.Region
public import proofs.«01_k».proof.Proof.Sum

@[expose] public section

noncomputable section

namespace Cert.Reduce

open Cert.KernelIdeal Cert.KernelIdeal.Gen
open Idealize.ShloMosaic Idealize.ShloMosaic.ValueIdx Idealize.ShloMosaic.TcCoe Idealize.SL.Sem

/-! ## The windows: each block is the whole array -/

section Windows
variable {F : FTy → Type} [FloatOps F]
variable (m : (ℓ : Loc nD τ sig) → Buf (Elt F) ℓ) (ρ : Dev nD → PrngReg) (c : Dev nD)

theorem emb_x (i : S1024x32.Idx) : (win0_0.blk (0 : Fin 1)).view.emb i = i := by
  funext a; apply Fin.ext
  match a with
  | ⟨0, _⟩ => show 0 * 1024 + 1 * (i 0).val = (i 0).val; omega
  | ⟨1, _⟩ => show 0 * 32 + 1 * (i 1).val = (i 1).val; omega
theorem emb_w (i : S32x1024.Idx) : (win0_1.blk (0 : Fin 1)).view.emb i = i := by
  funext a; apply Fin.ext
  match a with
  | ⟨0, _⟩ => show 0 * 32 + 1 * (i 0).val = (i 0).val; omega
  | ⟨1, _⟩ => show 0 * 1024 + 1 * (i 1).val = (i 1).val; omega
theorem emb_o (i : S1024x1024.Idx) : (win0_2.blk (0 : Fin 1)).view.emb i = i := by
  funext a; apply Fin.ext
  match a with
  | ⟨0, _⟩ => show 0 * 1024 + 1 * (i 0).val = (i 0).val; omega
  | ⟨1, _⟩ => show 0 * 1024 + 1 * (i 1).val = (i 1).val; omega

theorem xIn_apply (i : S1024x32.Idx) : xIn m ρ c i = m ((c : Thread nD τ).loc main_arg0) i :=
  congrArg (m ((c : Thread nD τ).loc main_arg0)) (emb_x i)
theorem wIn_apply (i : S32x1024.Idx) : wIn m ρ c i = m ((c : Thread nD τ).loc main_arg1) i :=
  congrArg (m ((c : Thread nD τ).loc main_arg1)) (emb_w i)

/-- The result array ends at the converted sum. -/
theorem finalA_o : finalA m ρ c (2 : Fin 3) = (cv (fin (prods m ρ)) : OB F) :=
  (dats m ρ 0 c).arrAt_eq_of_cover (2 : Fin 3) (cv (fin (prods m ρ)) : OB F)
    (fun t _ => by
      rw [fin_N0 t]
      funext i
      exact (congrArg (cv (fin (prods m ρ)) : OB F) (emb_o i)).symm)
    (fun i => ⟨t0_0, flush0_2 _, by
      have h := (win0_2.blk (0 : Fin 1)).view.emb_mem_set i
      rw [emb_o] at h
      exact h⟩)

end Windows

/-! ## The products -/

section Products
variable (m : (ℓ : Loc nD τ sig) → Buf (Elt Ideal) ℓ) (ρ : Dev nD → PrngReg)

/-- The blocks of the operands tile them. -/
theorem tiles_x : Layout.Tiles S1024x32 S1024x1024 1 32 := by decide
theorem tiles_w : Layout.Tiles S32x1024 S1024x1024 0 32 := by decide

/-- The operands' entries, as extended reals. -/
def xE (c : Dev nD) (i : S1024x32.Idx) : EReal := m ((c : Thread nD τ).loc main_arg0) i
def wE (c : Dev nD) (i : S32x1024.Idx) : EReal := m ((c : Thread nD τ).loc main_arg1) i

/-- A device's product at an entry. -/
theorem prods_apply (c : Dev nD) (r s : Fin 1024) :
    en (ix2 r s) (prods m ρ) c = ∑ k : Fin 32, xE m c (ix2 r k) * wE m c (ix2 k s) := by
  have ex : xIn m ρ c = xE m c := funext (xIn_apply m ρ c)
  have ew : wIn m ρ c = wE m c := funext (wIn_apply m ρ c)
  unfold en prods k0_pay3
  simp only [shapeCast_self]
  rw [ex, ew]
  refine (Ideal.matmul_plain_apply (φ₁ := .bf16) (φ₂ := .bf16) none (xE m c) (wE m c) (constant S1024x1024 .f32 0x00000000#32) r s).trans ?_
  rw [constant_apply, Ideal.ofBits_zero_f32, zero_add]

variable (X W : S1024x1024.Idx → EReal)
variable (hx : ∀ c : Dev nD, xE m c = Layout.block S1024x32 S1024x1024 1 32 c X tiles_x)
variable (hw : ∀ c : Dev nD, wE m c = Layout.block S32x1024 S1024x1024 0 32 c W tiles_w)
include hx hw

/-- The sum of the products of the blocks is the product of the whole. -/
theorem fin_apply (r s : Fin 1024) :
    @Eq EReal (fin (prods m ρ) (ix2 r s)) (∑ k : Fin 1024, X (ix2 r k) * W (ix2 k s)) := by
  rw [fin_sum]
  simp only [prods_apply, hx, hw, Layout.block_apply]
  rw [← (finProdFinEquiv (m := 32) (n := 32)).sum_comp (fun k => X (ix2 r k) * W (ix2 k s)), Fintype.sum_prod_type]
  refine Finset.sum_congr rfl fun c _ => Finset.sum_congr rfl fun k _ => ?_
  refine congrArg₂ (· * ·) (congrArg X ?_) (congrArg W ?_)
  · funext a; apply Fin.ext
    match a with
    | ⟨0, _⟩ => rfl
    | ⟨1, _⟩ => show c.val * 32 + k.val = k.val + 32 * c.val; omega
  · funext a; apply Fin.ext
    match a with
    | ⟨0, _⟩ => show c.val * 32 + k.val = k.val + 32 * c.val; omega
    | ⟨1, _⟩ => rfl

end Products

end Cert.Reduce

end
-- ==== Proof.Same.lean ====
/-
The program as printed and the program printed for the exact values have the same text: over any float values their
body tables are equal.
-/
module

public import proofs.«01_k».proof.Proof.Gen.Kernel
public import proofs.«01_k».proof.Proof.Gen.KernelIdeal

@[expose] public section

noncomputable section

namespace Cert.Reduce

open Idealize.ShloMosaic

variable {F : FTy → Type} [FloatOps F]

set_option maxRecDepth 100000 in
theorem bodies_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))

theorem defs_same : Cert.Kernel.defs (F := F) = Cert.KernelIdeal.defs (F := F) :=
  congrArg (Idealize.ShloMosaic.Pipeline.defs Cert.KernelIdeal.pcfgs) bodies_same

end Cert.Reduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Output
public import proofs.«01_k».proof.Proof.Same
public import Idealize.ShloMosaic.Lib.Quiescent
public import Idealize.ShloMosaic.Adequacy
public import Idealize.ShloMosaic.Init
public import Idealize.ShloMosaic.Lib.StackMember

@[expose] public section

noncomputable section

namespace Cert.Proof

open Idealize.ShloMosaic Idealize.ShloMosaic.ValueIdx Idealize.SL.Sem Cert.Reduce

/-- The kernel's run over any float values, read at its arguments and its counters. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main m ρ)

theorem frame_kernelIdeal : Cert.quiescent_KernelIdeal := fun m ρ _ => frame_any m ρ

theorem frame_kernel : Cert.quiescent_Kernel := fun m ρ _ => by
  rw [defs_same]
  exact frame_any (F := Bits) m ρ

/-- The reference's run; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's value: the product of the whole operands, converted and back. -/
abbrev whole (X W : FVec Ideal Cert.ReferenceIdeal.S1024x1024 .bf16) : FVec Ideal Cert.ReferenceIdeal.S1024x1024 .f32 :=
  extf .f32 (truncf .bf16
    (Host.dotGeneral Cert.ReferenceIdeal.dot_S1024x1024_S1024x1024_S1024x1024_1_0_0_1_n_n none X W)
    Cert.ReferenceIdeal.Gen.bitsLt_bf16_f32) Cert.ReferenceIdeal.Gen.bitsLt_bf16_f32

theorem whole_apply (X W : FVec Ideal Cert.ReferenceIdeal.S1024x1024 .bf16) (r s : Fin 1024) :
    @Eq EReal (whole X W (ix2 r s)) (∑ k : Fin 1024, (X (ix2 r k) : EReal) * W (ix2 k s)) :=
  StackMember.dotGeneral_plain_apply none X W r s

/-- The kernel's value is the reference's. -/
theorem value_eq (m : (ℓ : Loc Cert.KernelIdeal.nD Cert.KernelIdeal.τ Cert.KernelIdeal.sig) → Buf (Elt Ideal) ℓ)
    (ρ : Dev Cert.KernelIdeal.nD → PrngReg) (X W : FVec Ideal Cert.ReferenceIdeal.S1024x1024 .bf16)
    (hx : ∀ c, xE m c = Layout.block ⟨2, ![1024, 32]⟩ ⟨2, ![1024, 1024]⟩ 1 32 c X tiles_x)
    (hw : ∀ c, wE m c = Layout.block ⟨2, ![32, 1024]⟩ ⟨2, ![1024, 1024]⟩ 0 32 c W tiles_w) :
    (cv (fin (prods m ρ)) : OB Ideal) = whole X W := by
  funext i
  obtain ⟨r, s, rfl⟩ : ∃ (r s : Fin 1024), i = ix2 r s := ⟨i 0, i 1, eq_ix2 i⟩
  exact (fin_apply m ρ X W hx hw r s).trans (whole_apply X W r s).symm

/-- Both programs end with the product of the whole operands. -/
theorem algebraic : Cert.algebraic_KernelIdeal_ReferenceIdeal := by
  intro m ρ m' ρ' _ h
  refine ⟨_, (θ_run Cert.KernelIdeal.defs _ _).mono
      (fun _ H c => ⟨((H.1 c (2 : Fin 3)).trans (finalA_o m ρ c)).trans
          (value_eq m ρ _ _ (fun c => (h c).1) (fun c => (h c).2)),
        (H.1 c (0 : Fin 3)).trans (finalA_x m ρ c), (H.1 c (1 : Fin 3)).trans (finalA_w m ρ c)⟩)
      (run_main (F := Ideal) m ρ),
    (θ_run Cert.ReferenceIdeal.defs _ _).mono (fun _ H => H 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
